-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_segment_tables : Cert.Pre_segment_tables.Facts] (m : (ℓ : Loc Cert.Kernel2.nD Cert.Kernel2.τ Cert.Kernel2.sig) → Buf (Elt Bits) ℓ) : Prop :=
  ∀ c : Dev Cert.Kernel2.nD,
    (Cert.Pre_segment_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_segment_tables : Cert.Pre_segment_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_segment_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_segment_tables [hPre_segment_tables : Cert.Pre_segment_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_segment_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_segment_tables : Cert.Pre_segment_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_segment_tables : Cert.Pre_segment_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_segment_tables [hReference2Ideal : Cert.Reference2Ideal.Facts] [hPre_segment_tables : Cert.Pre_segment_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_segment_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_on_routed_rows [hKernel2Ideal : Cert.Kernel2Ideal.Facts] [hReference2Ideal : Cert.Reference2Ideal.Facts] [hPre_segment_tables : Cert.Pre_segment_tables.Facts] [hOn_routed_rows : Cert.On_routed_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![8, 4608, 1024]⟩ : Shape).Idx, (Cert.On_routed_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![8, 4608, 1024]⟩ : Shape).Idx, (Cert.On_routed_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v36) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_segment_tables : Cert.Pre_segment_tables.Facts) (hOn_routed_rows : Cert.On_routed_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_segment_tables := hPre_segment_tables)
    ∧ quiescent_Kernel2Ideal (hKernel2Ideal := hKernel2Ideal) (hPre_segment_tables := hPre_segment_tables)
    ∧ quiescent_Reference2Ideal (hReference2Ideal := hReference2Ideal)
    ∧ quiescent_Reference2Ideal_pre_segment_tables (hReference2Ideal := hReference2Ideal) (hPre_segment_tables := hPre_segment_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_on_routed_rows (hKernel2Ideal := hKernel2Ideal) (hReference2Ideal := hReference2Ideal) (hPre_segment_tables := hPre_segment_tables) (hOn_routed_rows := hOn_routed_rows)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== On_routed_rows.lean ====
abbrev S8x32 : Shape := ⟨2, ![8, 32]⟩
abbrev S8x4608x512 : Shape := ⟨3, ![8, 4608, 512]⟩
abbrev S2x32x1024x256 : Shape := ⟨4, ![2, 32, 1024, 256]⟩
abbrev S2x32x256x1024 : Shape := ⟨4, ![2, 32, 256, 1024]⟩
abbrev S4608 : Shape := ⟨1, ![4608]⟩
abbrev S1x4608x1 : Shape := ⟨3, ![1, 4608, 1]⟩
abbrev S8x1x32 : Shape := ⟨3, ![8, 1, 32]⟩
abbrev S8x4608x32 : Shape := ⟨3, ![8, 4608, 32]⟩
abbrev S_ : Shape := ⟨0, ![]⟩
abbrev S8x4608 : Shape := ⟨2, ![8, 4608]⟩
abbrev S8x4608x1 : Shape := ⟨3, ![8, 4608, 1]⟩
abbrev S8x4608x1024 : Shape := ⟨3, ![8, 4608, 1024]⟩

class Facts : Prop where
  bcast_S4608_S1x4608x1_1 : S4608.BroadcastsInDim S1x4608x1 (![1] : Fin 1 → Fin S1x4608x1.rank)
  bcast_S8x32_S8x1x32_0_2 : S8x32.BroadcastsInDim S8x1x32 (![0, 2] : Fin 2 → Fin S8x1x32.rank)
  bcast_S1x4608x1_S8x4608x32_0_1_2 : S1x4608x1.BroadcastsInDim S8x4608x32 (![0, 1, 2] : Fin 3 → Fin S8x4608x32.rank)
  bcast_S8x1x32_S8x4608x32_0_1_2 : S8x1x32.BroadcastsInDim S8x4608x32 (![0, 1, 2] : Fin 3 → Fin S8x4608x32.rank)
  reducesTo_S8x4608x32_S8x4608_d2 : S8x4608x32.ReducesTo [2] S8x4608
  h_S_ : 0 < S_.numel
  bcast_S8x4608_S8x4608x1_0_1 : S8x4608.BroadcastsInDim S8x4608x1 (![0, 1] : Fin 2 → Fin S8x4608x1.rank)
  bcast_S8x4608x1_S8x4608x1024_0_1_2 : S8x4608x1.BroadcastsInDim S8x4608x1024 (![0, 1, 2] : Fin 3 → Fin S8x4608x1024.rank)

variable [Facts]

def fn {F : FTy → Type} [FloatOps F] (main_arg0 : IVec S8x32 32) (main_arg1 : IVec S8x32 32) (main_arg2 : IVec S8x4608x512 32) (main_arg3 : FVec F S2x32x1024x256 .bf16) (main_arg4 : FVec F S2x32x1024x256 .bf16) (main_arg5 : FVec F S2x32x256x1024 .bf16) : IVec S8x4608x1024 1 :=
  let main_v0 : IVec S4608 32 := iotaInDim S4608 32 0
  let main_v1 : IVec S1x4608x1 32 := broadcastInDim S1x4608x1 ![1] bcast_S4608_S1x4608x1_1 main_v0
  let main_v2 : IVec S8x1x32 32 := broadcastInDim S8x1x32 ![0, 2] bcast_S8x32_S8x1x32_0_2 main_arg1
  let main_v3 : IVec S8x4608x32 32 := broadcastInDim S8x4608x32 ![0, 1, 2] bcast_S1x4608x1_S8x4608x32_0_1_2 main_v1
  let main_v4 : IVec S8x4608x32 32 := broadcastInDim S8x4608x32 ![0, 1, 2] bcast_S8x1x32_S8x4608x32_0_1_2 main_v2
  let main_v5 : IVec S8x4608x32 1 := cmpi .sge main_v3 main_v4
  let main_v6 : IVec S8x32 32 := addi main_arg1 main_arg0
  let main_v7 : IVec S8x1x32 32 := broadcastInDim S8x1x32 ![0, 2] bcast_S8x32_S8x1x32_0_2 main_v6
  let main_v8 : IVec S8x4608x32 32 := broadcastInDim S8x4608x32 ![0, 1, 2] bcast_S1x4608x1_S8x4608x32_0_1_2 main_v1
  let main_v9 : IVec S8x4608x32 32 := broadcastInDim S8x4608x32 ![0, 1, 2] bcast_S8x1x32_S8x4608x32_0_1_2 main_v7
  let main_v10 : IVec S8x4608x32 1 := cmpi .slt main_v8 main_v9
  let main_v11 : IVec S8x4608x32 1 := andi main_v5 main_v10
  let main_c : IVec S_ 1 := constantI S_ 1 0#1
  let main_v12 : IVec S8x4608 1 := (fun x v => Host.reduce IntOp.ori x v reducesTo_S8x4608x32_S8x4608_d2 h_S_) main_v11 main_c
  let main_v13 : IVec S8x4608x1 1 := broadcastInDim S8x4608x1 ![0, 1] bcast_S8x4608_S8x4608x1_0_1 main_v12
  let main_v14 : IVec S8x4608x1024 1 := broadcastInDim S8x4608x1024 ![0, 1, 2] bcast_S8x4608x1_S8x4608x1024_0_1_2 main_v13
  main_v14
-- ==== Pre_finite_scores.lean ====
abbrev S8x2048x768 : Shape := ⟨3, ![8, 2048, 768]⟩
abbrev S8x2048x1024 : Shape := ⟨3, ![8, 2048, 1024]⟩
abbrev S8x2048x128 : Shape := ⟨3, ![8, 2048, 128]⟩
abbrev S8x2048x512 : Shape := ⟨3, ![8, 2048, 512]⟩
abbrev S8x2048x64 : Shape := ⟨3, ![8, 2048, 64]⟩
abbrev S_ : Shape := ⟨0, ![]⟩

class Facts : Prop where
  bitsLt_bf16_f32 : FTy.bits .bf16 < FTy.bits .f32
  slices_S8x2048x1024_S8x2048x512_0_0_0 : S8x2048x1024.Slices ![0, 0, 0] S8x2048x512
  slices_S8x2048x128_S8x2048x64_0_0_0 : S8x2048x128.Slices ![0, 0, 0] S8x2048x64
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S8x2048x768 .bf16) (main_arg1 : FVec F S8x2048x1024 .bf16) (main_arg2 : FVec F S8x2048x128 .bf16) : IVec S_ 1 :=
  let main_v0 : FVec F S8x2048x768 .f32 := (extf .f32 · bitsLt_bf16_f32) main_arg0
  let main_v1 : FVec F S8x2048x512 .bf16 := (extractStridedSlice S8x2048x512 ![0, 0, 0] · slices_S8x2048x1024_S8x2048x512_0_0_0) main_arg1
  let main_v2 : FVec F S8x2048x512 .f32 := (extf .f32 · bitsLt_bf16_f32) main_v1
  let main_v3 : FVec F S8x2048x64 .bf16 := (extractStridedSlice S8x2048x64 ![0, 0, 0] · slices_S8x2048x128_S8x2048x64_0_0_0) main_arg2
  let main_v4 : FVec F S8x2048x64 .f32 := (extf .f32 · bitsLt_bf16_f32) main_v3
  let main_v5 : FVec F S8x2048x768 .f32 := Host.absf main_v0
  let main_cst : FVec F S_ .f32 := constant S_ .f32 0x7F800000#32
  let main_v6 : FVec F S8x2048x768 .f32 := broadcastInDim S8x2048x768 ![] bcast_S_S8x2048x768 main_cst
  let main_v7 : IVec S8x2048x768 1 := cmpf .olt main_v5 main_v6
  let main_c : IVec S_ 1 := constantI S_ 1 1#1
  let main_v8 : IVec S_ 1 := (fun x v => Host.reduce IntOp.andi x v reducesTo_S8x2048x768_S_d0_1_2 h_S_) main_v7 main_c
  let main_v9 : FVec F S8x2048x512 .f32 := Host.absf main_v2
  let main_cst_0 : FVec F S_ .f32 := constant S_ .f32 0x7F800000#32
  let main_v10 : FVec F S8x2048x512 .f32 := broadcastInDim S8x2048x512 ![] bcast_S_S8x2048x512 main_cst_0
  let main_v11 : IVec S8x2048x512 1 := cmpf .olt main_v9 main_v10
  let main_c_1 : IVec S_ 1 := constantI S_ 1 1#1
  let main_v12 : IVec S_ 1 := (fun x v => Host.reduce IntOp.andi x v reducesTo_S8x2048x512_S_d0_1_2 h_S_) main_v11 main_c_1
  let main_v13 : IVec S_ 1 := andi main_v8 main_v12
  let main_v14 : FVec F S8x2048x64 .f32 := Host.absf main_v4
  let main_cst_2 : FVec F S_ .f32 := constant S_ .f32 0x7F800000#32
  let main_v15 : FVec F S8x2048x64 .f32 := broadcastInDim S8x2048x64 ![] bcast_S_S8x2048x64 main_cst_2
  let main_v16 : IVec S8x2048x64 1 := cmpf .olt main_v14 main_v15
  let main_c_3 : IVec S_ 1 := constantI S_ 1 1#1
  let main_v17 : IVec S_ 1 := (fun x v => Host.reduce IntOp.andi x v reducesTo_S8x2048x64_S_d0_1_2 h_S_) main_v16 main_c_3
  fn_part1 (F := F) main_v13 main_v17
-- ==== Pre_segment_tables.lean ====
abbrev S8x32 : Shape := ⟨2, ![8, 32]⟩
abbrev S8x4608x512 : Shape := ⟨3, ![8, 4608, 512]⟩
abbrev S2x32x1024x256 : Shape := ⟨4, ![2, 32, 1024, 256]⟩
abbrev S2x32x256x1024 : Shape := ⟨4, ![2, 32, 256, 1024]⟩
abbrev S_ : Shape := ⟨0, ![]⟩
abbrev S8x31 : Shape := ⟨2, ![8, 31]⟩

class Facts : Prop where
  bcast_S_S8x32 : S_.BroadcastsInDim S8x32 (![] : Fin 0 → Fin S8x32.rank)
  reducesTo_S8x32_S_d0_1 : S8x32.ReducesTo [0, 1] S_
  h_S_ : 0 < S_.numel
  slices_S8x32_S8x31_0_0 : S8x32.Slices ![0, 0] S8x31
  slices_S8x32_S8x31_0_1 : S8x32.Slices ![0, 1] S8x31
  reducesTo_S8x31_S_d0_1 : S8x31.ReducesTo [0, 1] S_

variable [Facts]

def fn_part1 {F : FTy → Type} [FloatOps F] (main_arg1 : IVec S8x32 32) (main_v0 : IVec S8x32 32) (main_v13 : IVec S_ 1) (main_v15 : IVec S8x32 32) (main_c_6 : IVec S_ 32) : IVec S_ 1 :=
  let main_v16 : IVec S8x32 32 := broadcastInDim S8x32 ![] bcast_S_S8x32 main_c_6
  let main_v17 : IVec S8x32 1 := cmpi .eq main_v15 main_v16
  let main_c_7 : IVec S_ 1 := constantI S_ 1 1#1
  let main_v18 : IVec S_ 1 := (fun x v => Host.reduce IntOp.andi x v reducesTo_S8x32_S_d0_1 h_S_) main_v17 main_c_7
  let main_v19 : IVec S_ 1 := andi main_v13 main_v18
  let main_c_8 : IVec S_ 32 := constantI S_ 32 255#32
  let main_v20 : IVec S8x32 32 := broadcastInDim S8x32 ![] bcast_S_S8x32 main_c_8
  let main_v21 : IVec S8x32 32 := addi main_v0 main_v20
  let main_c_9 : IVec S_ 32 := constantI S_ 32 4608#32
  let main_v22 : IVec S8x32 32 := broadcastInDim S8x32 ![] bcast_S_S8x32 main_c_9
  let main_v23 : IVec S8x32 1 := cmpi .sle main_v21 main_v22
  let main_c_10 : IVec S_ 1 := constantI S_ 1 1#1
  let main_v24 : IVec S_ 1 := (fun x v => Host.reduce IntOp.andi x v reducesTo_S8x32_S_d0_1 h_S_) main_v23 main_c_10
  let main_v25 : IVec S_ 1 := andi main_v19 main_v24
  let main_v26 : IVec S8x31 32 := (extractStridedSlice S8x31 ![0, 0] · slices_S8x32_S8x31_0_0) main_v0
  let main_v27 : IVec S8x31 32 := (extractStridedSlice S8x31 ![0, 1] · slices_S8x32_S8x31_0_1) main_arg1
  let main_v28 : IVec S8x31 1 := cmpi .sle main_v26 main_v27
  let main_c_11 : IVec S_ 1 := constantI S_ 1 1#1
  let main_v29 : IVec S_ 1 := (fun x v => Host.reduce IntOp.andi x v reducesTo_S8x31_S_d0_1 h_S_) main_v28 main_c_11
  let main_v30 : IVec S_ 1 := andi main_v25 main_v29
  main_v30

def fn {F : FTy → Type} [FloatOps F] (main_arg0 : IVec S8x32 32) (main_arg1 : IVec S8x32 32) (main_arg2 : IVec S8x4608x512 32) (main_arg3 : FVec F S2x32x1024x256 .bf16) (main_arg4 : FVec F S2x32x1024x256 .bf16) (main_arg5 : FVec F S2x32x256x1024 .bf16) : IVec S_ 1 :=
  let main_v0 : IVec S8x32 32 := addi main_arg1 main_arg0
  let main_c : IVec S_ 32 := constantI S_ 32 0#32
  let main_v1 : IVec S8x32 32 := broadcastInDim S8x32 ![] bcast_S_S8x32 main_c
  let main_v2 : IVec S8x32 1 := cmpi .sge main_arg0 main_v1
  let main_c_0 : IVec S_ 32 := constantI S_ 32 4096#32
  let main_v3 : IVec S8x32 32 := broadcastInDim S8x32 ![] bcast_S_S8x32 main_c_0
  let main_v4 : IVec S8x32 1 := cmpi .sle main_arg0 main_v3
  let main_v5 : IVec S8x32 1 := andi main_v2 main_v4
  let main_c_1 : IVec S_ 1 := constantI S_ 1 1#1
  let main_v6 : IVec S_ 1 := (fun x v => Host.reduce IntOp.andi x v reducesTo_S8x32_S_d0_1 h_S_) main_v5 main_c_1
  let main_c_2 : IVec S_ 32 := constantI S_ 32 0#32
  let main_v7 : IVec S8x32 32 := broadcastInDim S8x32 ![] bcast_S_S8x32 main_c_2
  let main_v8 : IVec S8x32 1 := cmpi .sge main_arg1 main_v7
  let main_c_3 : IVec S_ 32 := constantI S_ 32 4608#32
  let main_v9 : IVec S8x32 32 := broadcastInDim S8x32 ![] bcast_S_S8x32 main_c_3
  let main_v10 : IVec S8x32 1 := cmpi .sle main_arg1 main_v9
  let main_v11 : IVec S8x32 1 := andi main_v8 main_v10
  let main_c_4 : IVec S_ 1 := constantI S_ 1 1#1
  let main_v12 : IVec S_ 1 := (fun x v => Host.reduce IntOp.andi x v reducesTo_S8x32_S_d0_1 h_S_) main_v11 main_c_4
  let main_v13 : IVec S_ 1 := andi main_v6 main_v12
  let main_c_5 : IVec S_ 32 := constantI S_ 32 7#32
  let main_v14 : IVec S8x32 32 := broadcastInDim S8x32 ![] bcast_S_S8x32 main_c_5
  let main_v15 : IVec S8x32 32 := andi main_arg1 main_v14
  let main_c_6 : IVec S_ 32 := constantI S_ 32 0#32
  fn_part1 (F := F) main_arg1 main_v0 main_v13 main_v15 main_c_6
-- ==== Kernel.lean ====
abbrev S8x2048x768 : Shape := ⟨3, ![8, 2048, 768]⟩
abbrev S8x2048x1024 : Shape := ⟨3, ![8, 2048, 1024]⟩
abbrev S8x2048x128 : Shape := ⟨3, ![8, 2048, 128]⟩
abbrev S8x2048x512 : Shape := ⟨3, ![8, 2048, 512]⟩
abbrev S1x128x768 : Shape := ⟨3, ![1, 128, 768]⟩
abbrev S1x2048x1024 : Shape := ⟨3, ![1, 2048, 1024]⟩
abbrev S1x2048x128 : Shape := ⟨3, ![1, 2048, 128]⟩
abbrev S1x128x512 : Shape := ⟨3, ![1, 128, 512]⟩
abbrev S128x256 : Shape := ⟨2, ![128, 256]⟩
abbrev S1x256x64 : Shape := ⟨3, ![1, 256, 64]⟩
abbrev S256x64 : Shape := ⟨2, ![256, 64]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩
abbrev S128x512 : Shape := ⟨2, ![128, 512]⟩
abbrev S1x512x64 : Shape := ⟨3, ![1, 512, 64]⟩
abbrev S512x64 : Shape := ⟨2, ![512, 64]⟩
abbrev S1x512x128 : Shape := ⟨3, ![1, 512, 128]⟩
abbrev S512x128 : Shape := ⟨2, ![512, 128]⟩
abbrev S128x768 : Shape := ⟨2, ![128, 768]⟩
abbrev S1x768x64 : Shape := ⟨3, ![1, 768, 64]⟩
abbrev S768x64 : Shape := ⟨2, ![768, 64]⟩
abbrev S1x768x128 : Shape := ⟨3, ![1, 768, 128]⟩
abbrev S768x128 : Shape := ⟨2, ![768, 128]⟩
abbrev S128x1024 : Shape := ⟨2, ![128, 1024]⟩
abbrev S1x1024x64 : Shape := ⟨3, ![1, 1024, 64]⟩
abbrev S1024x64 : Shape := ⟨2, ![1024, 64]⟩
abbrev S1x1024x128 : Shape := ⟨3, ![1, 1024, 128]⟩
abbrev S1024x128 : Shape := ⟨2, ![1024, 128]⟩
abbrev S128x1280 : Shape := ⟨2, ![128, 1280]⟩
abbrev S1x1280x64 : Shape := ⟨3, ![1, 1280, 64]⟩
abbrev S1280x64 : Shape := ⟨2, ![1280, 64]⟩
abbrev S1x1280x128 : Shape := ⟨3, ![1, 1280, 128]⟩
abbrev S1280x128 : Shape := ⟨2, ![1280, 128]⟩
abbrev S128x1536 : Shape := ⟨2, ![128, 1536]⟩
abbrev S1x1536x64 : Shape := ⟨3, ![1, 1536, 64]⟩
abbrev S1536x64 : Shape := ⟨2, ![1536, 64]⟩
abbrev S1x1536x128 : Shape := ⟨3, ![1, 1536, 128]⟩
abbrev S1536x128 : Shape := ⟨2, ![1536, 128]⟩
abbrev S128x1792 : Shape := ⟨2, ![128, 1792]⟩
abbrev S1x1792x64 : Shape := ⟨3, ![1, 1792, 64]⟩
abbrev S1792x64 : Shape := ⟨2, ![1792, 64]⟩
abbrev S1x1792x128 : Shape := ⟨3, ![1, 1792, 128]⟩
abbrev S1792x128 : Shape := ⟨2, ![1792, 128]⟩
abbrev S128x2048 : Shape := ⟨2, ![128, 2048]⟩
abbrev S1x2048x64 : Shape := ⟨3, ![1, 2048, 64]⟩
abbrev S2048x64 : Shape := ⟨2, ![2048, 64]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x768, .bf16⟩
  | .hbm, ⟨1, _⟩ => ⟨S8x2048x1024, .bf16⟩
  | .hbm, ⟨2, _⟩ => ⟨S8x2048x128, .bf16⟩
  | .hbm, ⟨3, _⟩ => ⟨S8x2048x512, .bf16⟩
  | .local _ .vmem, ⟨0, _⟩ => ⟨S1x128x768, .bf16⟩
  | .local _ .vmem, ⟨1, _⟩ => ⟨S1x128x768, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x512, .bf16⟩
  | .local _ .vmem, ⟨7, _⟩ => ⟨S1x128x512, .bf16⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond3 (i : grid0.Coords) : BitVec 1 :=
  let arg1 : BitVec 32 := BitVec.ofNat 32 (i 1).val
  let c0_i32_16 : BitVec 32 := 0#32
  let v41 : BitVec 1 := Scalar.cmpi .sgt arg1 c0_i32_16
  let v42 : BitVec 32 := Scalar.extui v41
  let c0_i32_17 : BitVec 32 := 0#32
  let v43 : BitVec 1 := Scalar.cmpi .slt arg1 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg1 c2_i32_15
  let c0_i32_20 : BitVec 32 := 0#32
  let v53 : BitVec 1 := Scalar.cmpi .ne v52 c0_i32_20
  let v54 : BitVec 1 := Scalar.andi v51 v53
  let v40 : BitVec 32 := Scalar.divsi arg1 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg1 c2_i32_24
  let c0_i32_29 : BitVec 32 := 0#32
  let v73 : BitVec 1 := Scalar.cmpi .ne v72 c0_i32_29
  let v74 : BitVec 1 := Scalar.andi v71 v73
  let v60 : BitVec 32 := Scalar.divsi arg1 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def k0_cond5 (i : grid0.Coords) : BitVec 1 :=
  let arg1 : BitVec 32 := BitVec.ofNat 32 (i 1).val
  let c0_i32_33 : BitVec 32 := 0#32
  let v81 : BitVec 1 := Scalar.cmpi .sgt arg1 c0_i32_33
  let v82 : BitVec 32 := Scalar.extui v81
  let c0_i32_34 : BitVec 32 := 0#32
  let v83 : BitVec 1 := Scalar.cmpi .slt arg1 c0_i32_34
  let v84 : BitVec 32 := Scalar.extui v83
  let v85 : BitVec 32 := Scalar.subi v82 v84
  let c2_i32_32 : BitVec 32 := 2#32
  let c0_i32_35 : BitVec 32 := 0#32
  let v86 : BitVec 1 := Scalar.cmpi .sgt c2_i32_32 c0_i32_35
  let v87 : BitVec 32 := Scalar.extui v86
  let c0_i32_36 : BitVec 32 := 0#32
  let v88 : BitVec 1 := Scalar.cmpi .slt c2_i32_32 c0_i32_36
  let v89 : BitVec 32 := Scalar.extui v88
  let v90 : BitVec 32 := Scalar.subi v87 v89
  let v91 : BitVec 1 := Scalar.cmpi .ne v85 v90
  let v92 : BitVec 32 := Scalar.remsi arg1 c2_i32_32
  let c0_i32_37 : BitVec 32 := 0#32
  let v93 : BitVec 1 := Scalar.cmpi .ne v92 c0_i32_37
  let v94 : BitVec 1 := Scalar.andi v91 v93
  let v80 : BitVec 32 := Scalar.divsi arg1 c2_i32_32
  let c1_i32_38 : BitVec 32 := 1#32
  let v95 : BitVec 32 := Scalar.subi v80 c1_i32_38
  let v96 : BitVec 32 := Scalar.select v94 v95 v80
  let c4_i32 : BitVec 32 := 4#32
  let v97 : BitVec 1 := Scalar.cmpi .eq v96 c4_i32
  let v98 : BitVec 32 := Scalar.extui v97
  let c0_i32_39 : BitVec 32 := 0#32
  let v99 : BitVec 1 := Scalar.cmpi .ne v98 c0_i32_39
  v99

def k0_cond6 (i : grid0.Coords) : BitVec 1 :=
  let arg1 : BitVec 32 := BitVec.ofNat 32 (i 1).val
  let c0_i32_41 : BitVec 32 := 0#32
  let v101 : BitVec 1 := Scalar.cmpi .sgt arg1 c0_i32_41
  let v102 : BitVec 32 := Scalar.extui v101
  let c0_i32_42 : BitVec 32 := 0#32
  let v103 : BitVec 1 := Scalar.cmpi .slt arg1 c0_i32_42
  let v104 : BitVec 32 := Scalar.extui v103
  let v105 : BitVec 32 := Scalar.subi v102 v104
  let c2_i32_40 : BitVec 32 := 2#32
  let c0_i32_43 : BitVec 32 := 0#32
  let v106 : BitVec 1 := Scalar.cmpi .sgt c2_i32_40 c0_i32_43
  let v107 : BitVec 32 := Scalar.extui v106
  let c0_i32_44 : BitVec 32 := 0#32
  let v108 : BitVec 1 := Scalar.cmpi .slt c2_i32_40 c0_i32_44
  let v109 : BitVec 32 := Scalar.extui v108
  let v110 : BitVec 32 := Scalar.subi v107 v109
  let v111 : BitVec 1 := Scalar.cmpi .ne v105 v110
  let v112 : BitVec 32 := Scalar.remsi arg1 c2_i32_40
  let c0_i32_45 : BitVec 32 := 0#32
  let v113 : BitVec 1 := Scalar.cmpi .ne v112 c0_i32_45
  let v114 : BitVec 1 := Scalar.andi v111 v113
  let v100 : BitVec 32 := Scalar.divsi arg1 c2_i32_40
  let c1_i32_46 : BitVec 32 := 1#32
  let v115 : BitVec 32 := Scalar.subi v100 c1_i32_46
  let v116 : BitVec 32 := Scalar.select v114 v115 v100
  let c5_i32 : BitVec 32 := 5#32
  let v117 : BitVec 1 := Scalar.cmpi .eq v116 c5_i32
  let v118 : BitVec 32 := Scalar.extui v117
  let c0_i32_47 : BitVec 32 := 0#32
  let v119 : BitVec 1 := Scalar.cmpi .ne v118 c0_i32_47
  v119

def k0_cond7 (i : grid0.Coords) : BitVec 1 :=
  let arg1 : BitVec 32 := BitVec.ofNat 32 (i 1).val
  let c0_i32_49 : BitVec 32 := 0#32
  let v121 : BitVec 1 := Scalar.cmpi .sgt arg1 c0_i32_49
  let v122 : BitVec 32 := Scalar.extui v121
  let c0_i32_50 : BitVec 32 := 0#32
  let v123 : BitVec 1 := Scalar.cmpi .slt arg1 c0_i32_50
  let v124 : BitVec 32 := Scalar.extui v123
  let v125 : BitVec 32 := Scalar.subi v122 v124
  let c2_i32_48 : BitVec 32 := 2#32
  let c0_i32_51 : BitVec 32 := 0#32
  let v126 : BitVec 1 := Scalar.cmpi .sgt c2_i32_48 c0_i32_51
  let v127 : BitVec 32 := Scalar.extui v126
  let c0_i32_52 : BitVec 32 := 0#32
  let v128 : BitVec 1 := Scalar.cmpi .slt c2_i32_48 c0_i32_52
  let v129 : BitVec 32 := Scalar.extui v128
  let v130 : BitVec 32 := Scalar.subi v127 v129
  let v131 : BitVec 1 := Scalar.cmpi .ne v125 v130
  let v132 : BitVec 32 := Scalar.remsi arg1 c2_i32_48
  let c0_i32_53 : BitVec 32 := 0#32
  let v133 : BitVec 1 := Scalar.cmpi .ne v132 c0_i32_53
  let v134 : BitVec 1 := Scalar.andi v131 v133
  let v120 : BitVec 32 := Scalar.divsi arg1 c2_i32_48
  let c1_i32_54 : BitVec 32 := 1#32
  let v135 : BitVec 32 := Scalar.subi v120 c1_i32_54
  let v136 : BitVec 32 := Scalar.select v134 v135 v120
  let c6_i32 : BitVec 32 := 6#32
  let v137 : BitVec 1 := Scalar.cmpi .eq v136 c6_i32
  let v138 : BitVec 32 := Scalar.extui v137
  let c0_i32_55 : BitVec 32 := 0#32
  let v139 : BitVec 1 := Scalar.cmpi .ne v138 c0_i32_55
  v139

def k0_cond8 (i : grid0.Coords) : BitVec 1 :=
  let arg1 : BitVec 32 := BitVec.ofNat 32 (i 1).val
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32_56 : BitVec 32 := 2#32
  let c0_i32_59 : BitVec 32 := 0#32
  let v146 : BitVec 1 := Scalar.cmpi .sgt c2_i32_56 c0_i32_59
  let v147 : BitVec 32 := Scalar.extui v146
  let c0_i32_60 : BitVec 32 := 0#32
  let v148 : BitVec 1 := Scalar.cmpi .slt c2_i32_56 c0_i32_60
  let v149 : BitVec 32 := Scalar.extui v148
  let v150 : BitVec 32 := Scalar.subi v147 v149
  let v151 : BitVec 1 := Scalar.cmpi .ne v145 v150
  let v152 : BitVec 32 := Scalar.remsi arg1 c2_i32_56
  let c0_i32_61 : BitVec 32 := 0#32
  let v153 : BitVec 1 := Scalar.cmpi .ne v152 c0_i32_61
  let v154 : BitVec 1 := Scalar.andi v151 v153
  let v140 : BitVec 32 := Scalar.divsi arg1 c2_i32_56
  let c1_i32_62 : BitVec 32 := 1#32
  let v155 : BitVec 32 := Scalar.subi v140 c1_i32_62
  let v156 : BitVec 32 := Scalar.select v154 v155 v140
  let c7_i32 : BitVec 32 := 7#32
  let v157 : BitVec 1 := Scalar.cmpi .eq v156 c7_i32
  let v158 : BitVec 32 := Scalar.extui v157
  let c0_i32_63 : BitVec 32 := 0#32
  let v159 : BitVec 1 := Scalar.cmpi .ne v158 c0_i32_63
  v159

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x768 : Shape := ⟨3, ![8, 2048, 768]⟩
abbrev S8x2048x1024 : Shape := ⟨3, ![8, 2048, 1024]⟩
abbrev S8x2048x128 : Shape := ⟨3, ![8, 2048, 128]⟩
abbrev S8x2048x512 : Shape := ⟨3, ![8, 2048, 512]⟩
abbrev S8x2048x4x128 : Shape := ⟨4, ![8, 2048, 4, 128]⟩
abbrev S8x2048x256 : Shape := ⟨3, ![8, 2048, 256]⟩
abbrev S8x2048x4x64 : Shape := ⟨4, ![8, 2048, 4, 64]⟩
abbrev S8x2048x64 : Shape := ⟨3, ![8, 2048, 64]⟩
abbrev S2048 : Shape := ⟨1, ![2048]⟩
abbrev S_ : Shape := ⟨0, ![]⟩
abbrev S8x4x2048x2048 : Shape := ⟨4, ![8, 4, 2048, 2048]⟩
abbrev S8x2048x2048x4 : Shape := ⟨4, ![8, 2048, 2048, 4]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S8x2048x1024, .bf16⟩
  | .hbm, ⟨2, _⟩ => ⟨S8x2048x128, .bf16⟩
  | .hbm, ⟨3, _⟩ => ⟨S8x2048x768, .f32⟩
  | .hbm, ⟨4, _⟩ => ⟨S8x2048x1024, .f32⟩
  | .hbm, ⟨5, _⟩ => ⟨S8x2048x128, .f32⟩
  | .hbm, ⟨6, _⟩ => ⟨S8x2048x512, .f32⟩
  | .hbm, ⟨7, _⟩ => ⟨S8x2048x4x128, .f32⟩
  | .hbm, ⟨8, _⟩ => ⟨S8x2048x256, .f32⟩
  | .hbm, ⟨9, _⟩ => ⟨S8x2048x4x64, .f32⟩
  | .hbm, ⟨10, _⟩ => ⟨S8x2048x512, .f32⟩
  | .hbm, ⟨11, _⟩ => ⟨S8x2048x4x128, .f32⟩
  | .hbm, ⟨12, _⟩ => ⟨S8x2048x512, .f32⟩
  | .hbm, ⟨13, _⟩ => ⟨S8x2048x4x128, .f32⟩
  | .hbm, ⟨14, _⟩ => ⟨S8x2048x64, .f32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S8x4x2048x2048, .f32⟩
  | .hbm, ⟨35, _⟩ => ⟨S8x2048x2048x4, .f32⟩
  | .hbm, ⟨36, _⟩ => ⟨S8x4x2048x2048, .f32⟩
  | .hbm, ⟨37, _⟩ => ⟨S8x4x2048x2048, .f32⟩
  | .hbm, ⟨38, _⟩ => ⟨S_, .f32⟩
  | .hbm, ⟨39, _⟩ => ⟨S8x4x2048x2048, .f32⟩
  | .hbm, ⟨40, _⟩ => ⟨S8x4x2048x2048, .f32⟩
  | .hbm, ⟨41, _⟩ => ⟨S1x2048, .i32⟩
  | .hbm, ⟨42, _⟩ => ⟨S2048x1, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S1x1x2048x2048, .i1⟩
  | .hbm, ⟨47, _⟩ => ⟨S_, .f32⟩
  | .hbm, ⟨48, _⟩ => ⟨S_, .f32⟩
  | .hbm, ⟨49, _⟩ => ⟨S8x4x2048x2048, .i1⟩
  | .hbm, ⟨50, _⟩ => ⟨S8x4x2048x2048, .f32⟩
  | .hbm, ⟨51, _⟩ => ⟨S8x4x2048x2048, .f32⟩
  | .hbm, ⟨52, _⟩ => ⟨S_, .f32⟩
  | .hbm, ⟨53, _⟩ => ⟨S8x4x2048, .f32⟩
  | .hbm, ⟨54, _⟩ => ⟨S_, .f32⟩
  | .hbm, ⟨55, _⟩ => ⟨S8x4x2048, .f32⟩
  | .hbm, ⟨56, _⟩ => ⟨S8x4x2048, .f32⟩
  | .hbm, ⟨57, _⟩ => ⟨S8x4x2048x1, .f32⟩
  | .hbm, ⟨58, _⟩ => ⟨S8x4x2048x2048, .f32⟩
  | .hbm, ⟨59, _⟩ => ⟨S8x4x2048x2048, .f32⟩
  | .hbm, ⟨60, _⟩ => ⟨S8x4x2048x2048, .f32⟩
  | .hbm, ⟨61, _⟩ => ⟨S_, .f32⟩
  | .hbm, ⟨62, _⟩ => ⟨S8x4x2048, .f32⟩
  | .hbm, ⟨63, _⟩ => ⟨S8x4x2048x1, .f32⟩
  | .hbm, ⟨64, _⟩ => ⟨S8x4x2048x2048, .f32⟩
  | .hbm, ⟨65, _⟩ => ⟨S8x4x2048x2048, .f32⟩
  | .hbm, ⟨66, _⟩ => ⟨S8x4x128x2048, .f32⟩
  | .hbm, ⟨67, _⟩ => ⟨S8x2048x4x128, .f32⟩
  | .hbm, ⟨68, _⟩ => ⟨S8x2048x512, .f32⟩
  | .hbm, ⟨69, _⟩ => ⟨S8x2048x512, .bf16⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_3 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]
-- ==== Kernel2.lean ====
abbrev S8x32 : Shape := ⟨2, ![8, 32]⟩
abbrev S8x4608x512 : Shape := ⟨3, ![8, 4608, 512]⟩
abbrev S2x32x1024x256 : Shape := ⟨4, ![2, 32, 1024, 256]⟩
abbrev S2x32x256x1024 : Shape := ⟨4, ![2, 32, 256, 1024]⟩
abbrev S8x4608x1024 : Shape := ⟨3, ![8, 4608, 1024]⟩
abbrev S1x4608x512 : Shape := ⟨3, ![1, 4608, 512]⟩
abbrev S1x1x1024x256 : Shape := ⟨4, ![1, 1, 1024, 256]⟩
abbrev S1x1x256x1024 : Shape := ⟨4, ![1, 1, 256, 1024]⟩
abbrev S1x4608x1024 : Shape := ⟨3, ![1, 4608, 1024]⟩
abbrev S512x1024 : Shape := ⟨2, ![512, 1024]⟩
abbrev S1x512x1024 : Shape := ⟨3, ![1, 512, 1024]⟩
abbrev S1x1 : Shape := ⟨2, ![1, 1]⟩
abbrev S1x256x512 : Shape := ⟨3, ![1, 256, 512]⟩
abbrev S256x512 : Shape := ⟨2, ![256, 512]⟩
abbrev S1x1x512x256 : Shape := ⟨4, ![1, 1, 512, 256]⟩
abbrev S512x256 : Shape := ⟨2, ![512, 256]⟩
abbrev S256x256 : Shape := ⟨2, ![256, 256]⟩
abbrev S256x1024 : Shape := ⟨2, ![256, 1024]⟩
abbrev S1x256x1024 : Shape := ⟨3, ![1, 256, 1024]⟩

abbrev nBuf : Space → Nat
  | .hbm => 5
  | .vmem => 9
  | .smem => 2
  | _ => 0

abbrev bufTy : (tb : Table) → Fin (tcTables nBuf tb) → BufTy
  | .hbm, ⟨0, _⟩ => ⟨S8x4608x512, .i32⟩
  | .hbm, ⟨1, _⟩ => ⟨S2x32x1024x256, .bf16⟩
  | .hbm, ⟨2, _⟩ => ⟨S2x32x1024x256, .bf16⟩
  | .hbm, ⟨3, _⟩ => ⟨S2x32x256x1024, .bf16⟩
  | .hbm, ⟨4, _⟩ => ⟨S8x4608x1024, .f32⟩
  | .local _ .vmem, ⟨0, _⟩ => ⟨S1x4608x512, .i32⟩
  | .local _ .vmem, ⟨1, _⟩ => ⟨S1x1x1024x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x1024x256, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x4608x1024, .f32⟩
  | .local _ .vmem, ⟨8, _⟩ => ⟨S1x4608x1024, .f32⟩
  | .local _ .smem, ⟨0, _⟩ => ⟨S8x32, .i32⟩
  | .local _ .smem, ⟨1, _⟩ => ⟨S8x32, .i32⟩
  | _, _ => ⟨S8x4608x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
@[reducible] def k0_t1_loop (v5 : BitVec 32) : Scf.Loop 32 :=
  let c0_i32_9 : BitVec 32 := 0#32
  let c256_i32 : BitVec 32 := 256#32
  let v9 : BitVec 32 := Scalar.addi v5 c256_i32
  let c1_i32 : BitVec 32 := 1#32
  let v10 : BitVec 32 := Scalar.subi v9 c1_i32
  let c0_i32_2 : BitVec 32 := 0#32
  let v12 : BitVec 1 := Scalar.cmpi .sgt v10 c0_i32_2
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c256_i32_1 : BitVec 32 := 256#32
  let c0_i32_4 : BitVec 32 := 0#32
  let v17 : BitVec 1 := Scalar.cmpi .sgt c256_i32_1 c0_i32_4
  let v18 : BitVec 32 := Scalar.extui v17
  let c0_i32_5 : BitVec 32 := 0#32
  let v19 : BitVec 1 := Scalar.cmpi .slt c256_i32_1 c0_i32_5
  let v20 : BitVec 32 := Scalar.extui v19
  let v21 : BitVec 32 := Scalar.subi v18 v20
  let v22 : BitVec 1 := Scalar.cmpi .ne v16 v21
  let v23 : BitVec 32 := Scalar.remsi v10 c256_i32_1
  let c0_i32_6 : BitVec 32 := 0#32
  let v24 : BitVec 1 := Scalar.cmpi .ne v23 c0_i32_6
  let v25 : BitVec 1 := Scalar.andi v22 v24
  let v11 : BitVec 32 := Scalar.divsi v10 c256_i32_1
  let c1_i32_7 : BitVec 32 := 1#32
  let v26 : BitVec 32 := Scalar.subi v11 c1_i32_7
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_11 : BitVec 32 := 1#32
  ⟨c0_i32_9, v32, c1_i32_11⟩

def k0_mult1 (v5 : BitVec 32) (v8 : BitVec 32) (k0_t1 : Fin (k0_t1_loop v5).trips) : BitVec 32 :=
  let c0_i32_9 : BitVec 32 := 0#32
  let c1_i32_11 : BitVec 32 := 1#32
  let arg9 : BitVec 32 := Scf.iv c0_i32_9 c1_i32_11 k0_t1
  let c256_i32_13 : BitVec 32 := 256#32
  let v33 : BitVec 32 := Scalar.muli arg9 c256_i32_13
  let v34 : BitVec 32 := Scalar.addi v8 v33
  v34

def k0_off2 (v5 : BitVec 32) (v8 : BitVec 32) (k0_t1 : Fin (k0_t1_loop v5).trips) : Fin 3 → Nat :=
  let c0 : Index := 0#32
  let c0_i32_9 : BitVec 32 := 0#32
  let c1_i32_11 : BitVec 32 := 1#32
  let arg9 : BitVec 32 := Scf.iv c0_i32_9 c1_i32_11 k0_t1
  let c256_i32_13 : BitVec 32 := 256#32
  let v33 : BitVec 32 := Scalar.muli arg9 c256_i32_13
  let v34 : BitVec 32 := Scalar.addi v8 v33
  let v35 : BitVec 32 := v34
  let v36 : Index := Scalar.indexCast v35
  let c0_14 : Index := 0#32
  ![0, v36.toNat, 0]
def k0_off3 (v5 : BitVec 32) (v8 : BitVec 32) (k0_t1 : Fin (k0_t1_loop v5).trips) : Fin 3 → Nat :=
  let c0_38 : Index := 0#32
  let c0_i32_9 : BitVec 32 := 0#32
  let c1_i32_11 : BitVec 32 := 1#32
  let arg9 : BitVec 32 := Scf.iv c0_i32_9 c1_i32_11 k0_t1
  let c256_i32_13 : BitVec 32 := 256#32
  let v33 : BitVec 32 := Scalar.muli arg9 c256_i32_13
  let v34 : BitVec 32 := Scalar.addi v8 v33
  let v35 : BitVec 32 := v34
  let v68 : Index := Scalar.indexCast v35
  let c0_39 : Index := 0#32
  ![0, v68.toNat, 0]
@[reducible] def k0_t2_loop (v5 : BitVec 32) : Scf.Loop 32 :=
  let c0_i32_9 : BitVec 32 := 0#32
  let c256_i32 : BitVec 32 := 256#32
  let v9 : BitVec 32 := Scalar.addi v5 c256_i32
  let c1_i32 : BitVec 32 := 1#32
  let v10 : BitVec 32 := Scalar.subi v9 c1_i32
  let c0_i32_2 : BitVec 32 := 0#32
  let v12 : BitVec 1 := Scalar.cmpi .sgt v10 c0_i32_2
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c256_i32_1 : BitVec 32 := 256#32
  let c0_i32_4 : BitVec 32 := 0#32
  let v17 : BitVec 1 := Scalar.cmpi .sgt c256_i32_1 c0_i32_4
  let v18 : BitVec 32 := Scalar.extui v17
  let c0_i32_5 : BitVec 32 := 0#32
  let v19 : BitVec 1 := Scalar.cmpi .slt c256_i32_1 c0_i32_5
  let v20 : BitVec 32 := Scalar.extui v19
  let v21 : BitVec 32 := Scalar.subi v18 v20
  let v22 : BitVec 1 := Scalar.cmpi .ne v16 v21
  let v23 : BitVec 32 := Scalar.remsi v10 c256_i32_1
  let c0_i32_6 : BitVec 32 := 0#32
  let v24 : BitVec 1 := Scalar.cmpi .ne v23 c0_i32_6
  let v25 : BitVec 1 := Scalar.andi v22 v24
  let v11 : BitVec 32 := Scalar.divsi v10 c256_i32_1
  let c1_i32_7 : BitVec 32 := 1#32
  let v26 : BitVec 32 := Scalar.subi v11 c1_i32_7
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let v29 : BitVec 32 := Scalar.addi c0_i32_9 v28
  let c1_i32_12 : BitVec 32 := 1#32
  ⟨v32, v29, c1_i32_12⟩

def k0_chk1 (v5 : BitVec 32) : Prop :=
  ((k0_t1_loop v5).OK) ∧
  ((k0_t2_loop v5).OK)
theorem k0_t1_ok : ∀ (v5 : BitVec 32) (k0_hw1 : k0_chk1 v5), (k0_t1_loop v5).OK := fun v5 k0_hw1 => k0_hw1.1
theorem k0_t2_ok : ∀ (v5 : BitVec 32) (k0_hw1 : k0_chk1 v5), (k0_t2_loop v5).OK := fun v5 k0_hw1 => k0_hw1.2

def k0_mult2 (v5 : BitVec 32) (v8 : BitVec 32) (k0_t2 : Fin (k0_t2_loop v5).trips) : BitVec 32 :=
  let c0_i32_9 : BitVec 32 := 0#32
  let c256_i32 : BitVec 32 := 256#32
  let v9 : BitVec 32 := Scalar.addi v5 c256_i32
  let c1_i32 : BitVec 32 := 1#32
  let v10 : BitVec 32 := Scalar.subi v9 c1_i32
  let c0_i32_2 : BitVec 32 := 0#32
  let v12 : BitVec 1 := Scalar.cmpi .sgt v10 c0_i32_2
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c256_i32_1 : BitVec 32 := 256#32
  let c0_i32_4 : BitVec 32 := 0#32
  let v17 : BitVec 1 := Scalar.cmpi .sgt c256_i32_1 c0_i32_4
  let v18 : BitVec 32 := Scalar.extui v17
  let c0_i32_5 : BitVec 32 := 0#32
  let v19 : BitVec 1 := Scalar.cmpi .slt c256_i32_1 c0_i32_5
  let v20 : BitVec 32 := Scalar.extui v19
  let v21 : BitVec 32 := Scalar.subi v18 v20
  let v22 : BitVec 1 := Scalar.cmpi .ne v16 v21
  let v23 : BitVec 32 := Scalar.remsi v10 c256_i32_1
  let c0_i32_6 : BitVec 32 := 0#32
  let v24 : BitVec 1 := Scalar.cmpi .ne v23 c0_i32_6
  let v25 : BitVec 1 := Scalar.andi v22 v24
  let v11 : BitVec 32 := Scalar.divsi v10 c256_i32_1
  let c1_i32_7 : BitVec 32 := 1#32
  let v26 : BitVec 32 := Scalar.subi v11 c1_i32_7
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg9 : BitVec 32 := Scf.iv v32 c1_i32_12 k0_t2
  let c256_i32_13 : BitVec 32 := 256#32
  let v33 : BitVec 32 := Scalar.muli arg9 c256_i32_13
  let v34 : BitVec 32 := Scalar.addi v8 v33
  v34
def k0_off4 (v5 : BitVec 32) (v8 : BitVec 32) (k0_t2 : Fin (k0_t2_loop v5).trips) : Fin 3 → Nat :=
  let c0 : Index := 0#32
  let c0_i32_9 : BitVec 32 := 0#32
  let c256_i32 : BitVec 32 := 256#32
  let v9 : BitVec 32 := Scalar.addi v5 c256_i32
  let c1_i32 : BitVec 32 := 1#32
  let v10 : BitVec 32 := Scalar.subi v9 c1_i32
  let c0_i32_2 : BitVec 32 := 0#32
  let v12 : BitVec 1 := Scalar.cmpi .sgt v10 c0_i32_2
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c256_i32_1 : BitVec 32 := 256#32
  let c0_i32_4 : BitVec 32 := 0#32
  let v17 : BitVec 1 := Scalar.cmpi .sgt c256_i32_1 c0_i32_4
  let v18 : BitVec 32 := Scalar.extui v17
  let c0_i32_5 : BitVec 32 := 0#32
  let v19 : BitVec 1 := Scalar.cmpi .slt c256_i32_1 c0_i32_5
  let v20 : BitVec 32 := Scalar.extui v19
  let v21 : BitVec 32 := Scalar.subi v18 v20
  let v22 : BitVec 1 := Scalar.cmpi .ne v16 v21
  let v23 : BitVec 32 := Scalar.remsi v10 c256_i32_1
  let c0_i32_6 : BitVec 32 := 0#32
  let v24 : BitVec 1 := Scalar.cmpi .ne v23 c0_i32_6
  let v25 : BitVec 1 := Scalar.andi v22 v24
  let v11 : BitVec 32 := Scalar.divsi v10 c256_i32_1
  let c1_i32_7 : BitVec 32 := 1#32
  let v26 : BitVec 32 := Scalar.subi v11 c1_i32_7
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg9 : BitVec 32 := Scf.iv v32 c1_i32_12 k0_t2
  let c256_i32_13 : BitVec 32 := 256#32
  let v33 : BitVec 32 := Scalar.muli arg9 c256_i32_13
  let v34 : BitVec 32 := Scalar.addi v8 v33
  let v35 : BitVec 32 := v34
  let v36 : Index := Scalar.indexCast v35
  let c0_14 : Index := 0#32
  ![0, v36.toNat, 0]
def k0_off5 (v5 : BitVec 32) (v8 : BitVec 32) (k0_t2 : Fin (k0_t2_loop v5).trips) : Fin 3 → Nat :=
  let c0_38 : Index := 0#32
  let c0_i32_9 : BitVec 32 := 0#32
  let c256_i32 : BitVec 32 := 256#32
  let v9 : BitVec 32 := Scalar.addi v5 c256_i32
  let c1_i32 : BitVec 32 := 1#32
  let v10 : BitVec 32 := Scalar.subi v9 c1_i32
  let c0_i32_2 : BitVec 32 := 0#32
  let v12 : BitVec 1 := Scalar.cmpi .sgt v10 c0_i32_2
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c256_i32_1 : BitVec 32 := 256#32
  let c0_i32_4 : BitVec 32 := 0#32
  let v17 : BitVec 1 := Scalar.cmpi .sgt c256_i32_1 c0_i32_4
  let v18 : BitVec 32 := Scalar.extui v17
  let c0_i32_5 : BitVec 32 := 0#32
  let v19 : BitVec 1 := Scalar.cmpi .slt c256_i32_1 c0_i32_5
  let v20 : BitVec 32 := Scalar.extui v19
  let v21 : BitVec 32 := Scalar.subi v18 v20
  let v22 : BitVec 1 := Scalar.cmpi .ne v16 v21
  let v23 : BitVec 32 := Scalar.remsi v10 c256_i32_1
  let c0_i32_6 : BitVec 32 := 0#32
  let v24 : BitVec 1 := Scalar.cmpi .ne v23 c0_i32_6
  let v25 : BitVec 1 := Scalar.andi v22 v24
  let v11 : BitVec 32 := Scalar.divsi v10 c256_i32_1
  let c1_i32_7 : BitVec 32 := 1#32
  let v26 : BitVec 32 := Scalar.subi v11 c1_i32_7
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg9 : BitVec 32 := Scf.iv v32 c1_i32_12 k0_t2
  let c256_i32_13 : BitVec 32 := 256#32
  let v33 : BitVec 32 := Scalar.muli arg9 c256_i32_13
  let v34 : BitVec 32 := Scalar.addi v8 v33
  let v35 : BitVec 32 := v34
  let v68 : Index := Scalar.indexCast v35
  let c0_39 : Index := 0#32
  ![0, v68.toNat, 0]

def k0_chk2 (v5 : BitVec 32) (v8 : BitVec 32) : Prop :=
  (∀ k0_t1 : Fin (k0_t1_loop v5).trips, 8 ∣ (k0_mult1 v5 v8 k0_t1).toNat) ∧
  (∀ k0_t1 : Fin (k0_t1_loop v5).trips, ∀ a, (k0_off2 v5 v8 k0_t1) a + S1x256x512.size a ≤ S1x4608x512.size a) ∧
  (∀ k0_t1 : Fin (k0_t1_loop v5).trips, ∀ a, (k0_off3 v5 v8 k0_t1) a + S1x256x1024.size a ≤ S1x4608x1024.size a) ∧
  (∀ k0_t2 : Fin (k0_t2_loop v5).trips, 8 ∣ (k0_mult2 v5 v8 k0_t2).toNat) ∧
  (∀ k0_t2 : Fin (k0_t2_loop v5).trips, ∀ a, (k0_off4 v5 v8 k0_t2) a + S1x256x512.size a ≤ S1x4608x512.size a) ∧
  (∀ k0_t2 : Fin (k0_t2_loop v5).trips, ∀ a, (k0_off5 v5 v8 k0_t2) a + S1x256x1024.size a ≤ S1x4608x1024.size a)
theorem k0_mult1_dvd : ∀ (v5 : BitVec 32) (v8 : BitVec 32) (k0_hw2 : k0_chk2 v5 v8) (k0_t1 : Fin (k0_t1_loop v5).trips), 8 ∣ (k0_mult1 v5 v8 k0_t1).toNat := fun v5 v8 k0_hw2 k0_t1 => k0_hw2.1 k0_t1
theorem k0_off2_inb : ∀ (v5 : BitVec 32) (v8 : BitVec 32) (k0_hw2 : k0_chk2 v5 v8) (k0_t1 : Fin (k0_t1_loop v5).trips), ∀ a, (k0_off2 v5 v8 k0_t1) a + S1x256x512.size a ≤ S1x4608x512.size a := fun v5 v8 k0_hw2 k0_t1 => k0_hw2.2.1 k0_t1
theorem k0_off3_inb : ∀ (v5 : BitVec 32) (v8 : BitVec 32) (k0_hw2 : k0_chk2 v5 v8) (k0_t1 : Fin (k0_t1_loop v5).trips), ∀ a, (k0_off3 v5 v8 k0_t1) a + S1x256x1024.size a ≤ S1x4608x1024.size a := fun v5 v8 k0_hw2 k0_t1 => k0_hw2.2.2.1 k0_t1
theorem k0_mult2_dvd : ∀ (v5 : BitVec 32) (v8 : BitVec 32) (k0_hw2 : k0_chk2 v5 v8) (k0_t2 : Fin (k0_t2_loop v5).trips), 8 ∣ (k0_mult2 v5 v8 k0_t2).toNat := fun v5 v8 k0_hw2 k0_t2 => k0_hw2.2.2.2.1 k0_t2
theorem k0_off4_inb : ∀ (v5 : BitVec 32) (v8 : BitVec 32) (k0_hw2 : k0_chk2 v5 v8) (k0_t2 : Fin (k0_t2_loop v5).trips), ∀ a, (k0_off4 v5 v8 k0_t2) a + S1x256x512.size a ≤ S1x4608x512.size a := fun v5 v8 k0_hw2 k0_t2 => k0_hw2.2.2.2.2.1 k0_t2
theorem k0_off5_inb : ∀ (v5 : BitVec 32) (v8 : BitVec 32) (k0_hw2 : k0_chk2 v5 v8) (k0_t2 : Fin (k0_t2_loop v5).trips), ∀ a, (k0_off5 v5 v8 k0_t2) a + S1x256x1024.size a ≤ S1x4608x1024.size a := fun v5 v8 k0_hw2 k0_t2 => k0_hw2.2.2.2.2.2 k0_t2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4608x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4608x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8x32 : Shape := ⟨2, ![8, 32]⟩
abbrev S8x4608x512 : Shape := ⟨3, ![8, 4608, 512]⟩
abbrev S2x32x1024x256 : Shape := ⟨4, ![2, 32, 1024, 256]⟩
abbrev S2x32x256x1024 : Shape := ⟨4, ![2, 32, 256, 1024]⟩
abbrev S_ : Shape := ⟨0, ![]⟩
abbrev S8x4608x1024 : Shape := ⟨3, ![8, 4608, 1024]⟩
abbrev S4608 : Shape := ⟨1, ![4608]⟩
abbrev S1x4608x1 : Shape := ⟨3, ![1, 4608, 1]⟩
abbrev S8x1x32 : Shape := ⟨3, ![8, 1, 32]⟩
abbrev S8x4608x32 : Shape := ⟨3, ![8, 4608, 32]⟩
abbrev S1x32x1024x256 : Shape := ⟨4, ![1, 32, 1024, 256]⟩
abbrev S32x1024x256 : Shape := ⟨3, ![32, 1024, 256]⟩
abbrev S8x4608x32x256 : Shape := ⟨4, ![8, 4608, 32, 256]⟩
abbrev S8x4608x32x1 : Shape := ⟨4, ![8, 4608, 32, 1]⟩
abbrev S1x32x256x1024 : Shape := ⟨4, ![1, 32, 256, 1024]⟩
abbrev S32x256x1024 : Shape := ⟨3, ![32, 256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x32, .i32⟩
  | .hbm, ⟨1, _⟩ => ⟨S8x32, .i32⟩
  | .hbm, ⟨2, _⟩ => ⟨S8x4608x512, .i32⟩
  | .hbm, ⟨3, _⟩ => ⟨S2x32x1024x256, .bf16⟩
  | .hbm, ⟨4, _⟩ => ⟨S2x32x1024x256, .bf16⟩
  | .hbm, ⟨5, _⟩ => ⟨S2x32x256x1024, .bf16⟩
  | .hbm, ⟨6, _⟩ => ⟨S_, .i32⟩
  | .hbm, ⟨7, _⟩ => ⟨S8x4608x512, .i32⟩
  | .hbm, ⟨8, _⟩ => ⟨S8x4608x512, .i32⟩
  | .hbm, ⟨9, _⟩ => ⟨S8x4608x512, .f32⟩
  | .hbm, ⟨10, _⟩ => ⟨S_, .i32⟩
  | .hbm, ⟨11, _⟩ => ⟨S8x4608x512, .i32⟩
  | .hbm, ⟨12, _⟩ => ⟨S8x4608x512, .i32⟩
  | .hbm, ⟨13, _⟩ => ⟨S8x4608x512, .f32⟩
  | .hbm, ⟨14, _⟩ => ⟨S8x4608x1024, .f32⟩
  | .hbm, ⟨15, _⟩ => ⟨S4608, .i32⟩
  | .hbm, ⟨16, _⟩ => ⟨S1x4608x1, .i32⟩
  | .hbm, ⟨17, _⟩ => ⟨S8x1x32, .i32⟩
  | .hbm, ⟨18, _⟩ => ⟨S8x4608x32, .i32⟩
  | .hbm, ⟨19, _⟩ => ⟨S8x4608x32, .i32⟩
  | .hbm, ⟨20, _⟩ => ⟨S8x4608x32, .i1⟩
  | .hbm, ⟨21, _⟩ => ⟨S8x32, .i32⟩
  | .hbm, ⟨22, _⟩ => ⟨S8x1x32, .i32⟩
  | .hbm, ⟨23, _⟩ => ⟨S8x4608x32, .i32⟩
  | .hbm, ⟨24, _⟩ => ⟨S8x4608x32, .i32⟩
  | .hbm, ⟨25, _⟩ => ⟨S8x4608x32, .i1⟩
  | .hbm, ⟨26, _⟩ => ⟨S8x4608x32, .i1⟩
  | .hbm, ⟨27, _⟩ => ⟨S8x4608x32, .f32⟩
  | .hbm, ⟨28, _⟩ => ⟨S1x32x1024x256, .bf16⟩
  | .hbm, ⟨29, _⟩ => ⟨S32x1024x256, .bf16⟩
  | .hbm, ⟨30, _⟩ => ⟨S32x1024x256, .f32⟩
  | .hbm, ⟨31, _⟩ => ⟨S8x4608x32x256, .f32⟩
  | .hbm, ⟨32, _⟩ => ⟨S1x32x1024x256, .bf16⟩
  | .hbm, ⟨33, _⟩ => ⟨S32x1024x256, .bf16⟩
  | .hbm, ⟨34, _⟩ => ⟨S32x1024x256, .f32⟩
  | .hbm, ⟨35, _⟩ => ⟨S8x4608x32x256, .f32⟩
  | .hbm, ⟨36, _⟩ => ⟨S8x4608x32x256, .f32⟩
  | .hbm, ⟨37, _⟩ => ⟨S8x4608x32x256, .f32⟩
  | .hbm, ⟨38, _⟩ => ⟨S_, .f32⟩
  | .hbm, ⟨39, _⟩ => ⟨S8x4608x32x256, .f32⟩
  | .hbm, ⟨40, _⟩ => ⟨S8x4608x32x256, .f32⟩
  | .hbm, ⟨41, _⟩ => ⟨S_, .f32⟩
  | .hbm, ⟨42, _⟩ => ⟨S8x4608x32x256, .f32⟩
  | .hbm, ⟨43, _⟩ => ⟨S8x4608x32x256, .f32⟩
  | .hbm, ⟨44, _⟩ => ⟨S8x4608x32x256, .f32⟩
  | .hbm, ⟨45, _⟩ => ⟨S8x4608x32x256, .f32⟩
  | .hbm, ⟨46, _⟩ => ⟨S8x4608x32x1, .f32⟩
  | .hbm, ⟨47, _⟩ => ⟨S8x4608x32x256, .f32⟩
  | .hbm, ⟨48, _⟩ => ⟨S8x4608x32x256, .f32⟩
  | .hbm, ⟨49, _⟩ => ⟨S1x32x256x1024, .bf16⟩
  | .hbm, ⟨50, _⟩ => ⟨S32x256x1024, .bf16⟩
  | .hbm, ⟨51, _⟩ => ⟨S32x256x1024, .f32⟩
  | .hbm, ⟨52, _⟩ => ⟨S8x4608x1024, .f32⟩
  | _, _ => ⟨S8x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S2x1024x6408 : Shape := ⟨3, ![2, 1024, 6408]⟩
abbrev S8x2048x512 : Shape := ⟨3, ![8, 2048, 512]⟩
abbrev S2x512x1024 : Shape := ⟨3, ![2, 512, 1024]⟩
abbrev S2x1024x1024 : Shape := ⟨3, ![2, 1024, 1024]⟩
abbrev S16384x1024 : Shape := ⟨2, ![16384, 1024]⟩
abbrev S1x1024x6408 : Shape := ⟨3, ![1, 1024, 6408]⟩
abbrev S1024x6408 : Shape := ⟨2, ![1024, 6408]⟩
abbrev S1024x3072 : Shape := ⟨2, ![1024, 3072]⟩
abbrev S1x1024 : Shape := ⟨2, ![1, 1024]⟩
abbrev S1024 : Shape := ⟨1, ![1024]⟩
abbrev S16384x512 : Shape := ⟨2, ![16384, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 34
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6408, .f32⟩
  | .hbm, ⟨3, _⟩ => ⟨S8x2048x512, .bf16⟩
  | .hbm, ⟨4, _⟩ => ⟨S8x2048x512, .bf16⟩
  | .hbm, ⟨5, _⟩ => ⟨S8x2048x512, .bf16⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S16384x1024, .f32⟩
  | .hbm, ⟨11, _⟩ => ⟨S1x1024x6408, .f32⟩
  | .hbm, ⟨12, _⟩ => ⟨S1024x6408, .f32⟩
  | .hbm, ⟨13, _⟩ => ⟨S1024x3072, .f32⟩
  | .hbm, ⟨14, _⟩ => ⟨S1024x3072, .bf16⟩
  | .hbm, ⟨15, _⟩ => ⟨S1x1024, .f32⟩
  | .hbm, ⟨16, _⟩ => ⟨S1024, .f32⟩
  | .hbm, ⟨17, _⟩ => ⟨S16384x512, .bf16⟩
  | .hbm, ⟨18, _⟩ => ⟨S16384x512, .bf16⟩
  | .hbm, ⟨19, _⟩ => ⟨S16384x512, .bf16⟩
  | .hbm, ⟨20, _⟩ => ⟨S1x512x1024, .f32⟩
  | .hbm, ⟨21, _⟩ => ⟨S512x1024, .f32⟩
  | .hbm, ⟨22, _⟩ => ⟨S512x1024, .bf16⟩
  | .hbm, ⟨23, _⟩ => ⟨S1x512x1024, .f32⟩
  | .hbm, ⟨24, _⟩ => ⟨S512x1024, .f32⟩
  | .hbm, ⟨25, _⟩ => ⟨S512x1024, .bf16⟩
  | .hbm, ⟨26, _⟩ => ⟨S1x512x1024, .f32⟩
  | .hbm, ⟨27, _⟩ => ⟨S512x1024, .f32⟩
  | .hbm, ⟨28, _⟩ => ⟨S512x1024, .bf16⟩
  | .hbm, ⟨29, _⟩ => ⟨S1x1024x1024, .f32⟩
  | .hbm, ⟨30, _⟩ => ⟨S1024x1024, .f32⟩
  | .hbm, ⟨31, _⟩ => ⟨S1024x1024, .bf16⟩
  | .hbm, ⟨32, _⟩ => ⟨S1x1024, .f32⟩
  | .hbm, ⟨33, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x2048x1024 : Shape := ⟨3, ![8, 2048, 1024]⟩
abbrev S2x1024 : Shape := ⟨2, ![2, 1024]⟩
abbrev S2x1024x6408 : Shape := ⟨3, ![2, 1024, 6408]⟩
abbrev S8x2048x512 : Shape := ⟨3, ![8, 2048, 512]⟩
abbrev S2x512x1024 : Shape := ⟨3, ![2, 512, 1024]⟩
abbrev S2x1024x1024 : Shape := ⟨3, ![2, 1024, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x6408 : Shape := ⟨3, ![1, 1024, 6408]⟩
abbrev S1024x6408 : Shape := ⟨2, ![1024, 6408]⟩
abbrev S8x2048x6408 : Shape := ⟨3, ![8, 2048, 6408]⟩
abbrev S8x2048x3072 : Shape := ⟨3, ![8, 2048, 3072]⟩
abbrev S8x2048x3x1024 : Shape := ⟨4, ![8, 2048, 3, 1024]⟩
abbrev S8x2048x1x1024 : Shape := ⟨4, ![8, 2048, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6408, .f32⟩
  | .hbm, ⟨3, _⟩ => ⟨S8x2048x512, .bf16⟩
  | .hbm, ⟨4, _⟩ => ⟨S8x2048x512, .bf16⟩
  | .hbm, ⟨5, _⟩ => ⟨S8x2048x512, .bf16⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1x1024x6408, .f32⟩
  | .hbm, ⟨32, _⟩ => ⟨S1024x6408, .f32⟩
  | .hbm, ⟨33, _⟩ => ⟨S8x2048x6408, .f32⟩
  | .hbm, ⟨34, _⟩ => ⟨S8x2048x3072, .f32⟩
  | .hbm, ⟨35, _⟩ => ⟨S8x2048x3072, .f32⟩
  | .hbm, ⟨36, _⟩ => ⟨S8x2048x3072, .f32⟩
  | .hbm, ⟨37, _⟩ => ⟨S_, .f32⟩
  | .hbm, ⟨38, _⟩ => ⟨S8x2048x3072, .f32⟩
  | .hbm, ⟨39, _⟩ => ⟨S8x2048x3072, .f32⟩
  | .hbm, ⟨40, _⟩ => ⟨S_, .f32⟩
  | .hbm, ⟨41, _⟩ => ⟨S8x2048x3072, .f32⟩
  | .hbm, ⟨42, _⟩ => ⟨S8x2048x3072, .f32⟩
  | .hbm, ⟨43, _⟩ => ⟨S8x2048x3x1024, .f32⟩
  | .hbm, ⟨44, _⟩ => ⟨S8x2048x1x1024, .f32⟩
  | .hbm, ⟨45, _⟩ => ⟨S8x2048x1024, .f32⟩
  | .hbm, ⟨46, _⟩ => ⟨S1x512x1024, .f32⟩
  | .hbm, ⟨47, _⟩ => ⟨S512x1024, .f32⟩
  | .hbm, ⟨48, _⟩ => ⟨S8x2048x1024, .f32⟩
  | .hbm, ⟨49, _⟩ => ⟨S8x2048x1024, .f32⟩
  | .hbm, ⟨50, _⟩ => ⟨S8x2048x1x1024, .f32⟩
  | .hbm, ⟨51, _⟩ => ⟨S8x2048x1024, .f32⟩
  | .hbm, ⟨52, _⟩ => ⟨S1x512x1024, .f32⟩
  | .hbm, ⟨53, _⟩ => ⟨S512x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1x1024, .f32⟩
  | .hbm, ⟨58, _⟩ => ⟨S8x2048x1024, .f32⟩
  | .hbm, ⟨59, _⟩ => ⟨S1x512x1024, .f32⟩
  | .hbm, ⟨60, _⟩ => ⟨S512x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S1x1024x1024, .f32⟩
  | .hbm, ⟨65, _⟩ => ⟨S1024x1024, .f32⟩
  | .hbm, ⟨66, _⟩ => ⟨S8x2048x1024, .f32⟩
  | .hbm, ⟨67, _⟩ => ⟨S8x2048x1024, .f32⟩
  | .hbm, ⟨68, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024 : Shape := ⟨2, ![2, 1024]⟩
abbrev S2x1024x6408 : Shape := ⟨3, ![2, 1024, 6408]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S128 : Shape := ⟨1, ![128]⟩
abbrev S2048 : Shape := ⟨1, ![2048]⟩
abbrev S16 : Shape := ⟨1, ![16]⟩
abbrev S_ : Shape := ⟨0, ![]⟩
abbrev S2048x1 : Shape := ⟨2, ![2048, 1]⟩
abbrev S128x1 : Shape := ⟨2, ![128, 1]⟩
abbrev S1x128 : Shape := ⟨2, ![1, 128]⟩
abbrev S2048x128 : Shape := ⟨2, ![2048, 128]⟩
abbrev S1x2048x128 : Shape := ⟨3, ![1, 2048, 128]⟩
abbrev S3x2048x128 : Shape := ⟨3, ![3, 2048, 128]⟩
abbrev S8 : Shape := ⟨1, ![8]⟩
abbrev S32 : Shape := ⟨1, ![32]⟩
abbrev S16384x1024 : Shape := ⟨2, ![16384, 1024]⟩
abbrev S1x1024x6408 : Shape := ⟨3, ![1, 1024, 6408]⟩
abbrev S1024x6408 : Shape := ⟨2, ![1024, 6408]⟩
abbrev S1024x768 : Shape := ⟨2, ![1024, 768]⟩
abbrev S1024x584 : Shape := ⟨2, ![1024, 584]⟩
abbrev S1024x640 : Shape := ⟨2, ![1024, 640]⟩
abbrev S1024x448 : Shape := ⟨2, ![1024, 448]⟩
abbrev S1024x512 : Shape := ⟨2, ![1024, 512]⟩
abbrev S1024x1024 : Shape := ⟨2, ![1024, 1024]⟩
abbrev S1024x1536 : Shape := ⟨2, ![1024, 1536]⟩
abbrev S1x1024 : Shape := ⟨2, ![1, 1024]⟩
abbrev S1024 : Shape := ⟨1, ![1024]⟩
abbrev S1x256x768 : Shape := ⟨3, ![1, 256, 768]⟩
abbrev S256x768 : Shape := ⟨2, ![256, 768]⟩
abbrev S256x4x192 : Shape := ⟨3, ![256, 4, 192]⟩
abbrev S256x4x128 : Shape := ⟨3, ![256, 4, 128]⟩
abbrev S256x512 : Shape := ⟨2, ![256, 512]⟩
abbrev S256x4x64 : Shape := ⟨3, ![256, 4, 64]⟩
abbrev S256x256 : Shape := ⟨2, ![256, 256]⟩
abbrev S1x128x1024 : Shape := ⟨3, ![1, 128, 1024]⟩
abbrev S128x1024 : Shape := ⟨2, ![128, 1024]⟩
abbrev S128x4x256 : Shape := ⟨3, ![128, 4, 256]⟩
abbrev S128x4x128 : Shape := ⟨3, ![128, 4, 128]⟩
abbrev S128x512 : Shape := ⟨2, ![128, 512]⟩
abbrev S1x256 : Shape := ⟨2, ![1, 256]⟩
abbrev S256 : Shape := ⟨1, ![256]⟩
abbrev S16384x768 : Shape := ⟨2, ![16384, 768]⟩
abbrev S16384x640 : Shape := ⟨2, ![16384, 640]⟩
abbrev S16384x128 : Shape := ⟨2, ![16384, 128]⟩
abbrev S16384x1536 : Shape := ⟨2, ![16384, 1536]⟩
abbrev S512x1024 : Shape := ⟨2, ![512, 1024]⟩
abbrev S3x512x128 : Shape := ⟨3, ![3, 512, 128]⟩
abbrev S512x768 : Shape := ⟨2, ![512, 768]⟩
abbrev S512x640 : Shape := ⟨2, ![512, 640]⟩
abbrev S512x128 : Shape := ⟨2, ![512, 128]⟩
abbrev S512x1536 : Shape := ⟨2, ![512, 1536]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S512x256 : Shape := ⟨2, ![512, 256]⟩

abbrev nBuf : Space → Nat
  | .hbm => 324
  | .vmem => 33
  | .smem => 0
  | _ => 0

abbrev hbmTy0_0 (i : Nat) : BufTy := match i % 128 with
  | 0 => ⟨S8x2048x1024, .f32⟩
  | 1 => ⟨S2x1024, .f32⟩
  | 2 => ⟨S2x1024x6408, .f32⟩
  | 3 => ⟨S2x256, .f32⟩
  | 4 => ⟨S2x256x768, .f32⟩
  | 5 => ⟨S2x128, .f32⟩
  | 6 => ⟨S2x128x1024, .f32⟩
  | 7 => ⟨S128, .i32⟩
  | 8 => ⟨S128, .i1⟩
  | 9 => ⟨S128, .i1⟩
  | 10 => ⟨S128, .i1⟩
  | 11 => ⟨S128, .i1⟩
  | 12 => ⟨S128, .i32⟩
  | 13 => ⟨S128, .i1⟩
  | 14 => ⟨S128, .i1⟩
  | 15 => ⟨S128, .i1⟩
  | 16 => ⟨S128, .i1⟩
  | 17 => ⟨S128, .i32⟩
  | 18 => ⟨S128, .i1⟩
  | 19 => ⟨S128, .i1⟩
  | 20 => ⟨S128, .i1⟩
  | 21 => ⟨S128, .i1⟩
  | 22 => ⟨S128, .i32⟩
  | 23 => ⟨S128, .i1⟩
  | 24 => ⟨S128, .i1⟩
  | 25 => ⟨S128, .i1⟩
  | 26 => ⟨S128, .i1⟩
  | 27 => ⟨S128, .i32⟩
  | 28 => ⟨S128, .i1⟩
  | 29 => ⟨S128, .i1⟩
  | 30 => ⟨S128, .i1⟩
  | 31 => ⟨S128, .i1⟩
  | 32 => ⟨S2048, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S2048x1, .f32⟩
  | 48 => ⟨S_, .i32⟩
  | 49 => ⟨S128, .i32⟩
  | 50 => ⟨S128, .i32⟩
  | 51 => ⟨S128, .i32⟩
  | 52 => ⟨S128x1, .i32⟩
  | 53 => ⟨S128, .f32⟩
  | 54 => ⟨S1x128, .f32⟩
  | 55 => ⟨S2048x128, .f32⟩
  | 56 => ⟨S2048x128, .f32⟩
  | 57 => ⟨S2048x128, .f32⟩
  | 58 => ⟨S2048x128, .f32⟩
  | 59 => ⟨S2048x128, .f32⟩
  | 60 => ⟨S_, .f32⟩
  | 61 => ⟨S_, .f32⟩
  | 62 => ⟨S2048x128, .i1⟩
  | 63 => ⟨S2048x128, .f32⟩
  | 64 => ⟨S2048x128, .f32⟩
  | 65 => ⟨S_, .f32⟩
  | 66 => ⟨S_, .f32⟩
  | 67 => ⟨S2048x128, .i1⟩
  | 68 => ⟨S2048x128, .f32⟩
  | 69 => ⟨S2048x128, .f32⟩
  | 70 => ⟨S2048x128, .f32⟩
  | 71 => ⟨S_, .f32⟩
  | 72 => ⟨S_, .f32⟩
  | 73 => ⟨S2048x128, .i1⟩
  | 74 => ⟨S2048x128, .f32⟩
  | 75 => ⟨S2048x128, .f32⟩
  | 76 => ⟨S1x2048x128, .f32⟩
  | 77 => ⟨S1x2048x128, .f32⟩
  | 78 => ⟨S1x2048x128, .f32⟩
  | 79 => ⟨S3x2048x128, .f32⟩
  | 80 => ⟨S2048, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S2048x1, .f32⟩
  | 96 => ⟨S_, .i32⟩
  | 97 => ⟨S128, .i32⟩
  | 98 => ⟨S128, .i32⟩
  | 99 => ⟨S128, .i32⟩
  | 100 => ⟨S128x1, .i32⟩
  | 101 => ⟨S128, .f32⟩
  | 102 => ⟨S1x128, .f32⟩
  | 103 => ⟨S2048x128, .f32⟩
  | 104 => ⟨S2048x128, .f32⟩
  | 105 => ⟨S2048x128, .f32⟩
  | 106 => ⟨S2048x128, .f32⟩
  | 107 => ⟨S2048x128, .f32⟩
  | 108 => ⟨S_, .f32⟩
  | 109 => ⟨S_, .f32⟩
  | 110 => ⟨S2048x128, .i1⟩
  | 111 => ⟨S2048x128, .f32⟩
  | 112 => ⟨S2048x128, .f32⟩
  | 113 => ⟨S_, .f32⟩
  | 114 => ⟨S_, .f32⟩
  | 115 => ⟨S2048x128, .i1⟩
  | 116 => ⟨S2048x128, .f32⟩
  | 117 => ⟨S2048x128, .f32⟩
  | 118 => ⟨S2048x128, .f32⟩
  | 119 => ⟨S_, .f32⟩
  | 120 => ⟨S_, .f32⟩
  | 121 => ⟨S2048x128, .i1⟩
  | 122 => ⟨S2048x128, .f32⟩
  | 123 => ⟨S2048x128, .f32⟩
  | 124 => ⟨S1x2048x128, .f32⟩
  | 125 => ⟨S1x2048x128, .f32⟩
  | 126 => ⟨S1x2048x128, .f32⟩
  | 127 => ⟨S3x2048x128, .f32⟩
  | _ => ⟨S8x2048x1024, .f32⟩

abbrev hbmTy0_1 (i : Nat) : BufTy := match i % 128 with
  | 0 => ⟨S2048, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S2048x1, .f32⟩
  | 16 => ⟨S_, .i32⟩
  | 17 => ⟨S128, .i32⟩
  | 18 => ⟨S128, .i32⟩
  | 19 => ⟨S128, .i32⟩
  | 20 => ⟨S128x1, .i32⟩
  | 21 => ⟨S128, .f32⟩
  | 22 => ⟨S1x128, .f32⟩
  | 23 => ⟨S2048x128, .f32⟩
  | 24 => ⟨S2048x128, .f32⟩
  | 25 => ⟨S2048x128, .f32⟩
  | 26 => ⟨S2048x128, .f32⟩
  | 27 => ⟨S2048x128, .f32⟩
  | 28 => ⟨S_, .f32⟩
  | 29 => ⟨S_, .f32⟩
  | 30 => ⟨S2048x128, .i1⟩
  | 31 => ⟨S2048x128, .f32⟩
  | 32 => ⟨S2048x128, .f32⟩
  | 33 => ⟨S_, .f32⟩
  | 34 => ⟨S_, .f32⟩
  | 35 => ⟨S2048x128, .i1⟩
  | 36 => ⟨S2048x128, .f32⟩
  | 37 => ⟨S2048x128, .f32⟩
  | 38 => ⟨S2048x128, .f32⟩
  | 39 => ⟨S_, .f32⟩
  | 40 => ⟨S_, .f32⟩
  | 41 => ⟨S2048x128, .i1⟩
  | 42 => ⟨S2048x128, .f32⟩
  | 43 => ⟨S2048x128, .f32⟩
  | 44 => ⟨S1x2048x128, .f32⟩
  | 45 => ⟨S1x2048x128, .f32⟩
  | 46 => ⟨S1x2048x128, .f32⟩
  | 47 => ⟨S3x2048x128, .f32⟩
  | 48 => ⟨S2048, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S2048x1, .f32⟩
  | 64 => ⟨S_, .i32⟩
  | 65 => ⟨S128, .i32⟩
  | 66 => ⟨S128, .i32⟩
  | 67 => ⟨S128, .i32⟩
  | 68 => ⟨S128x1, .i32⟩
  | 69 => ⟨S128, .f32⟩
  | 70 => ⟨S1x128, .f32⟩
  | 71 => ⟨S2048x128, .f32⟩
  | 72 => ⟨S2048x128, .f32⟩
  | 73 => ⟨S2048x128, .f32⟩
  | 74 => ⟨S2048x128, .f32⟩
  | 75 => ⟨S2048x128, .f32⟩
  | 76 => ⟨S_, .f32⟩
  | 77 => ⟨S_, .f32⟩
  | 78 => ⟨S2048x128, .i1⟩
  | 79 => ⟨S2048x128, .f32⟩
  | 80 => ⟨S2048x128, .f32⟩
  | 81 => ⟨S_, .f32⟩
  | 82 => ⟨S_, .f32⟩
  | 83 => ⟨S2048x128, .i1⟩
  | 84 => ⟨S2048x128, .f32⟩
  | 85 => ⟨S2048x128, .f32⟩
  | 86 => ⟨S2048x128, .f32⟩
  | 87 => ⟨S_, .f32⟩
  | 88 => ⟨S_, .f32⟩
  | 89 => ⟨S2048x128, .i1⟩
  | 90 => ⟨S2048x128, .f32⟩
  | 91 => ⟨S2048x128, .f32⟩
  | 92 => ⟨S1x2048x128, .f32⟩
  | 93 => ⟨S1x2048x128, .f32⟩
  | 94 => ⟨S1x2048x128, .f32⟩
  | 95 => ⟨S3x2048x128, .f32⟩
  | 96 => ⟨S2048, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S2048x1, .f32⟩
  | 112 => ⟨S_, .i32⟩
  | 113 => ⟨S128, .i32⟩
  | 114 => ⟨S128, .i32⟩
  | 115 => ⟨S128, .i32⟩
  | 116 => ⟨S128x1, .i32⟩
  | 117 => ⟨S128, .f32⟩
  | 118 => ⟨S1x128, .f32⟩
  | 119 => ⟨S2048x128, .f32⟩
  | 120 => ⟨S2048x128, .f32⟩
  | 121 => ⟨S2048x128, .f32⟩
  | 122 => ⟨S2048x128, .f32⟩
  | 123 => ⟨S2048x128, .f32⟩
  | 124 => ⟨S_, .f32⟩
  | 125 => ⟨S_, .f32⟩
  | 126 => ⟨S2048x128, .i1⟩
  | 127 => ⟨S2048x128, .f32⟩
  | _ => ⟨S8x2048x1024, .f32⟩

abbrev hbmTy0_2 (i : Nat) : BufTy := match i % 128 with
  | 0 => ⟨S2048x128, .f32⟩
  | 1 => ⟨S_, .f32⟩
  | 2 => ⟨S_, .f32⟩
  | 3 => ⟨S2048x128, .i1⟩
  | 4 => ⟨S2048x128, .f32⟩
  | 5 => ⟨S2048x128, .f32⟩
  | 6 => ⟨S2048x128, .f32⟩
  | 7 => ⟨S_, .f32⟩
  | 8 => ⟨S_, .f32⟩
  | 9 => ⟨S2048x128, .i1⟩
  | 10 => ⟨S2048x128, .f32⟩
  | 11 => ⟨S2048x128, .f32⟩
  | 12 => ⟨S1x2048x128, .f32⟩
  | 13 => ⟨S1x2048x128, .f32⟩
  | 14 => ⟨S1x2048x128, .f32⟩
  | 15 => ⟨S3x2048x128, .f32⟩
  | 16 => ⟨S16384x1024, .f32⟩
  | 17 => ⟨S1x1024x6408, .f32⟩
  | 18 => ⟨S1024x6408, .f32⟩
  | 19 => ⟨S1024x768, .f32⟩
  | 20 => ⟨S1024x768, .bf16⟩
  | 21 => ⟨S1024x584, .f32⟩
  | 22 => ⟨S_, .i32⟩
  | 23 => ⟨S_, .f32⟩
  | 24 => ⟨S1024x640, .f32⟩
  | 25 => ⟨S1024x640, .bf16⟩
  | 26 => ⟨S1024x448, .f32⟩
  | 27 => ⟨S_, .i32⟩
  | 28 => ⟨S_, .f32⟩
  | 29 => ⟨S1024x512, .f32⟩
  | 30 => ⟨S1024x512, .bf16⟩
  | 31 => ⟨S1024x1024, .f32⟩
  | 32 => ⟨S1024x512, .f32⟩
  | 33 => ⟨S1024x1536, .f32⟩
  | 34 => ⟨S1024x1536, .bf16⟩
  | 35 => ⟨S1x1024, .f32⟩
  | 36 => ⟨S1024, .f32⟩
  | 37 => ⟨S1x256x768, .f32⟩
  | 38 => ⟨S256x768, .f32⟩
  | 39 => ⟨S256x4x192, .f32⟩
  | 40 => ⟨S256x4x128, .f32⟩
  | 41 => ⟨S256x512, .f32⟩
  | 42 => ⟨S256x4x64, .f32⟩
  | 43 => ⟨S256x256, .f32⟩
  | 44 => ⟨S256x768, .f32⟩
  | 45 => ⟨S256x768, .bf16⟩
  | 46 => ⟨S1x128x1024, .f32⟩
  | 47 => ⟨S128x1024, .f32⟩
  | 48 => ⟨S128x4x256, .f32⟩
  | 49 => ⟨S128x4x128, .f32⟩
  | 50 => ⟨S128x512, .f32⟩
  | 51 => ⟨S128x4x128, .f32⟩
  | 52 => ⟨S128x512, .f32⟩
  | 53 => ⟨S128x1024, .f32⟩
  | 54 => ⟨S128x1024, .bf16⟩
  | 55 => ⟨S1x256, .f32⟩
  | 56 => ⟨S256, .f32⟩
  | 57 => ⟨S1x128, .f32⟩
  | 58 => ⟨S128, .f32⟩
  | 59 => ⟨S1x1024, .f32⟩
  | 60 => ⟨S1x256, .f32⟩
  | 61 => ⟨S1x128, .f32⟩
  | 62 => ⟨S16384x768, .bf16⟩
  | 63 => ⟨S16384x640, .f32⟩
  | 64 => ⟨S16384x768, .bf16⟩
  | 65 => ⟨S16384x1024, .bf16⟩
  | 66 => ⟨S16384x128, .bf16⟩
  | 67 => ⟨S16384x1536, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S1024x640, .bf16⟩
  | .local _ .vmem, ⟨5, _⟩ => ⟨S1024x512, .bf16⟩
  | .local _ .vmem, ⟨6, _⟩ => ⟨S1024x1536, .bf16⟩
  | .local _ .vmem, ⟨7, _⟩ => ⟨S1x256, .f32⟩
  | .local _ .vmem, ⟨8, _⟩ => ⟨S256x768, .bf16⟩
  | .local _ .vmem, ⟨9, _⟩ => ⟨S1x128, .f32⟩
  | .local _ .vmem, ⟨10, _⟩ => ⟨S128x1024, .bf16⟩
  | .local _ .vmem, ⟨11, _⟩ => ⟨S3x512x128, .f32⟩
  | .local _ .vmem, ⟨12, _⟩ => ⟨S3x512x128, .f32⟩
  | .local _ .vmem, ⟨13, _⟩ => ⟨S3x512x128, .f32⟩
  | .local _ .vmem, ⟨14, _⟩ => ⟨S3x512x128, .f32⟩
  | .local _ .vmem, ⟨15, _⟩ => ⟨S3x512x128, .f32⟩
  | .local _ .vmem, ⟨16, _⟩ => ⟨S3x512x128, .f32⟩
  | .local _ .vmem, ⟨17, _⟩ => ⟨S3x512x128, .f32⟩
  | .local _ .vmem, ⟨18, _⟩ => ⟨S3x512x128, .f32⟩
  | .local _ .vmem, ⟨19, _⟩ => ⟨S3x512x128, .f32⟩
  | .local _ .vmem, ⟨20, _⟩ => ⟨S3x512x128, .f32⟩
  | .local _ .vmem, ⟨21, _⟩ => ⟨S512x768, .bf16⟩
  | .local _ .vmem, ⟨22, _⟩ => ⟨S512x768, .bf16⟩
  | .local _ .vmem, ⟨23, _⟩ => ⟨S512x640, .f32⟩
  | .local _ .vmem, ⟨24, _⟩ => ⟨S512x640, .f32⟩
  | .local _ .vmem, ⟨25, _⟩ => ⟨S512x768, .bf16⟩
  | .local _ .vmem, ⟨26, _⟩ => ⟨S512x768, .bf16⟩
  | .local _ .vmem, ⟨27, _⟩ => ⟨S512x1024, .bf16⟩
  | .local _ .vmem, ⟨28, _⟩ => ⟨S512x1024, .bf16⟩
  | .local _ .vmem, ⟨29, _⟩ => ⟨S512x128, .bf16⟩
  | .local _ .vmem, ⟨30, _⟩ => ⟨S512x128, .bf16⟩
  | .local _ .vmem, ⟨31, _⟩ => ⟨S512x1536, .bf16⟩
  | .local _ .vmem, ⟨32, _⟩ => ⟨S512x1536, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_c_7 : Ref sig .tc := ⟨.hbm, 15, rfl⟩
abbrev main_c_8 : Ref sig .tc := ⟨.hbm, 16, rfl⟩
abbrev main_c_9 : Ref sig .tc := ⟨.hbm, 17, rfl⟩
abbrev main_c_10 : Ref sig .tc := ⟨.hbm, 18, rfl⟩
abbrev main_c_11 : Ref sig .tc := ⟨.hbm, 19, rfl⟩
abbrev main_c_12 : Ref sig .tc := ⟨.hbm, 20, rfl⟩
abbrev main_c_13 : Ref sig .tc := ⟨.hbm, 21, rfl⟩
abbrev main_c_14 : Ref sig .tc := ⟨.hbm, 22, rfl⟩
abbrev main_c_15 : Ref sig .tc := ⟨.hbm, 23, rfl⟩
abbrev main_c_16 : Ref sig .tc := ⟨.hbm, 24, rfl⟩
abbrev main_c_17 : Ref sig .tc := ⟨.hbm, 25, rfl⟩
abbrev main_c_18 : Ref sig .tc := ⟨.hbm, 26, rfl⟩
abbrev main_c_19 : Ref sig .tc := ⟨.hbm, 27, rfl⟩
abbrev main_c_20 : Ref sig .tc := ⟨.hbm, 28, rfl⟩
abbrev main_c_21 : Ref sig .tc := ⟨.hbm, 29, rfl⟩
abbrev main_c_22 : Ref sig .tc := ⟨.hbm, 30, rfl⟩
abbrev main_c_23 : Ref sig .tc := ⟨.hbm, 31, rfl⟩
abbrev main_v0 : Ref sig .tc := ⟨.hbm, 32, rfl⟩
abbrev main_v1 : Ref sig .tc := ⟨.hbm, 33, rfl⟩
abbrev main_cst : Ref sig .tc := ⟨.hbm, 34, rfl⟩
abbrev main_v2 : Ref sig .tc := ⟨.hbm, 35, rfl⟩
abbrev main_v3 : Ref sig .tc := ⟨.hbm, 36, rfl⟩
abbrev main_cst_24 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_25 : Ref sig .tc := ⟨.hbm, 41, rfl⟩
abbrev main_v7 : Ref sig .tc := ⟨.hbm, 42, rfl⟩
abbrev main_v8 : Ref sig .tc := ⟨.hbm, 43, rfl⟩
abbrev main_cst_26 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_c_27 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_28 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v23 : Ref sig .tc := ⟨.hbm, 64, rfl⟩
abbrev main_cst_29 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v24 : Ref sig .tc := ⟨.hbm, 69, rfl⟩
abbrev main_v25 : Ref sig .tc := ⟨.hbm, 70, rfl⟩
abbrev main_cst_30 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_31 : Ref sig .tc := ⟨.hbm, 82, rfl⟩
abbrev main_v33 : Ref sig .tc := ⟨.hbm, 83, rfl⟩
abbrev main_v34 : Ref sig .tc := ⟨.hbm, 84, rfl⟩
abbrev main_cst_32 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_33 : Ref sig .tc := ⟨.hbm, 89, rfl⟩
abbrev main_v38 : Ref sig .tc := ⟨.hbm, 90, rfl⟩
abbrev main_v39 : Ref sig .tc := ⟨.hbm, 91, rfl⟩
abbrev main_cst_34 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_c_35 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_36 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v54 : Ref sig .tc := ⟨.hbm, 112, rfl⟩
abbrev main_cst_37 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v55 : Ref sig .tc := ⟨.hbm, 117, rfl⟩
abbrev main_v56 : Ref sig .tc := ⟨.hbm, 118, rfl⟩
abbrev main_cst_38 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_39 : Ref sig .tc := ⟨.hbm, 130, rfl⟩
abbrev main_v64 : Ref sig .tc := ⟨.hbm, 131, rfl⟩
abbrev main_v65 : Ref sig .tc := ⟨.hbm, 132, rfl⟩
abbrev main_cst_40 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_cst_41 : Ref sig .tc := ⟨.hbm, 137, rfl⟩
abbrev main_v69 : Ref sig .tc := ⟨.hbm, 138, rfl⟩
abbrev main_v70 : Ref sig .tc := ⟨.hbm, 139, rfl⟩
abbrev main_cst_42 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_c_43 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_cst_44 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v85 : Ref sig .tc := ⟨.hbm, 160, rfl⟩
abbrev main_cst_45 : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_v86 : Ref sig .tc := ⟨.hbm, 165, rfl⟩
abbrev main_v87 : Ref sig .tc := ⟨.hbm, 166, rfl⟩
abbrev main_cst_46 : Ref sig .tc := ⟨.hbm, 167, rfl⟩
abbrev main_call8_v0 : Ref sig .tc := ⟨.hbm, 168, rfl⟩
abbrev main_call8_v1 : Ref sig .tc := ⟨.hbm, 169, rfl⟩
abbrev main_call8_v2 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_cst_47 : Ref sig .tc := ⟨.hbm, 178, rfl⟩
abbrev main_v95 : Ref sig .tc := ⟨.hbm, 179, rfl⟩
abbrev main_v96 : Ref sig .tc := ⟨.hbm, 180, rfl⟩
abbrev main_cst_48 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_cst_49 : Ref sig .tc := ⟨.hbm, 185, rfl⟩
abbrev main_v100 : Ref sig .tc := ⟨.hbm, 186, rfl⟩
abbrev main_v101 : Ref sig .tc := ⟨.hbm, 187, rfl⟩
abbrev main_cst_50 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_c_51 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_cst_52 : Ref sig .tc := ⟨.hbm, 204, rfl⟩
abbrev main_call9_v0 : Ref sig .tc := ⟨.hbm, 205, rfl⟩
abbrev main_call9_v1 : Ref sig .tc := ⟨.hbm, 206, rfl⟩
abbrev main_call9_v2 : Ref sig .tc := ⟨.hbm, 207, rfl⟩
abbrev main_v116 : Ref sig .tc := ⟨.hbm, 208, rfl⟩
abbrev main_cst_53 : Ref sig .tc := ⟨.hbm, 209, rfl⟩
abbrev main_call10_v0 : Ref sig .tc := ⟨.hbm, 210, rfl⟩
abbrev main_call10_v1 : Ref sig .tc := ⟨.hbm, 211, rfl⟩
abbrev main_call10_v2 : Ref sig .tc := ⟨.hbm, 212, rfl⟩
abbrev main_v117 : Ref sig .tc := ⟨.hbm, 213, rfl⟩
abbrev main_v118 : Ref sig .tc := ⟨.hbm, 214, rfl⟩
abbrev main_cst_54 : Ref sig .tc := ⟨.hbm, 215, rfl⟩
abbrev main_call11_v0 : Ref sig .tc := ⟨.hbm, 216, rfl⟩
abbrev main_call11_v1 : Ref sig .tc := ⟨.hbm, 217, rfl⟩
abbrev main_call11_v2 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_cst_55 : Ref sig .tc := ⟨.hbm, 226, rfl⟩
abbrev main_v126 : Ref sig .tc := ⟨.hbm, 227, rfl⟩
abbrev main_v127 : Ref sig .tc := ⟨.hbm, 228, rfl⟩
abbrev main_cst_56 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_cst_57 : Ref sig .tc := ⟨.hbm, 233, rfl⟩
abbrev main_v131 : Ref sig .tc := ⟨.hbm, 234, rfl⟩
abbrev main_v132 : Ref sig .tc := ⟨.hbm, 235, rfl⟩
abbrev main_cst_58 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_c_59 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_cst_60 : Ref sig .tc := ⟨.hbm, 252, rfl⟩
abbrev main_call12_v0 : Ref sig .tc := ⟨.hbm, 253, rfl⟩
abbrev main_call12_v1 : Ref sig .tc := ⟨.hbm, 254, rfl⟩
abbrev main_call12_v2 : Ref sig .tc := ⟨.hbm, 255, rfl⟩
abbrev main_v147 : Ref sig .tc := ⟨.hbm, 256, rfl⟩
abbrev main_cst_61 : Ref sig .tc := ⟨.hbm, 257, rfl⟩
abbrev main_call13_v0 : Ref sig .tc := ⟨.hbm, 258, rfl⟩
abbrev main_call13_v1 : Ref sig .tc := ⟨.hbm, 259, rfl⟩
abbrev main_call13_v2 : Ref sig .tc := ⟨.hbm, 260, rfl⟩
abbrev main_v148 : Ref sig .tc := ⟨.hbm, 261, rfl⟩
abbrev main_v149 : Ref sig .tc := ⟨.hbm, 262, rfl⟩
abbrev main_cst_62 : Ref sig .tc := ⟨.hbm, 263, rfl⟩
abbrev main_call14_v0 : Ref sig .tc := ⟨.hbm, 264, rfl⟩
abbrev main_call14_v1 : Ref sig .tc := ⟨.hbm, 265, rfl⟩
abbrev main_call14_v2 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_c_63 : Ref sig .tc := ⟨.hbm, 278, rfl⟩
abbrev main_call15_v0 : Ref sig .tc := ⟨.hbm, 279, rfl⟩
abbrev main_v161 : Ref sig .tc := ⟨.hbm, 280, rfl⟩
abbrev main_v162 : Ref sig .tc := ⟨.hbm, 281, rfl⟩
abbrev main_v163 : Ref sig .tc := ⟨.hbm, 282, rfl⟩
abbrev main_c_64 : Ref sig .tc := ⟨.hbm, 283, rfl⟩
abbrev main_call16_v0 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197_0 : Ref sig .tc := ⟨.hbm, 318, rfl⟩
abbrev main_v197_1 : Ref sig .tc := ⟨.hbm, 319, rfl⟩
abbrev main_v197_2 : Ref sig .tc := ⟨.hbm, 320, rfl⟩
abbrev main_v197_3 : Ref sig .tc := ⟨.hbm, 321, rfl⟩
abbrev main_v197_4 : Ref sig .tc := ⟨.hbm, 322, rfl⟩
abbrev main_v197_5 : Ref sig .tc := ⟨.hbm, 323, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_11 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_12 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_13 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_14 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x640 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x768 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1536 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S8x2048x1024 : Shape := ⟨3, ![8, 2048, 1024]⟩
abbrev S2x1024 : Shape := ⟨2, ![2, 1024]⟩
abbrev S2x1024x6408 : Shape := ⟨3, ![2, 1024, 6408]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S8 : Shape := ⟨1, ![8]⟩
abbrev S1x8 : Shape := ⟨2, ![1, 8]⟩
abbrev S2048x8 : Shape := ⟨2, ![2048, 8]⟩
abbrev S32 : Shape := ⟨1, ![32]⟩
abbrev S1x32 : Shape := ⟨2, ![1, 32]⟩
abbrev S2048x32 : Shape := ⟨2, ![2048, 32]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x6408 : Shape := ⟨3, ![1, 1024, 6408]⟩
abbrev S1024x6408 : Shape := ⟨2, ![1024, 6408]⟩
abbrev S8x2048x6408 : Shape := ⟨3, ![8, 2048, 6408]⟩
abbrev S8x2048x512 : Shape := ⟨3, ![8, 2048, 512]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x256 : Shape := ⟨3, ![8, 2048, 256]⟩
abbrev S8x2048x4x128 : Shape := ⟨4, ![8, 2048, 4, 128]⟩
abbrev S8x2048x4x32 : Shape := ⟨4, ![8, 2048, 4, 32]⟩
abbrev S2048x1x16 : Shape := ⟨3, ![2048, 1, 16]⟩
abbrev S8x2048x4x16 : Shape := ⟨4, ![8, 2048, 4, 16]⟩
abbrev S1x2048x1x16 : Shape := ⟨4, ![1, 2048, 1, 16]⟩
abbrev S8x2048x4x96 : Shape := ⟨4, ![8, 2048, 4, 96]⟩
abbrev S8x2048x32 : Shape := ⟨3, ![8, 2048, 32]⟩
abbrev S8x2048x16 : Shape := ⟨3, ![8, 2048, 16]⟩
abbrev S1x2048x16 : Shape := ⟨3, ![1, 2048, 16]⟩
abbrev S8x2048x96 : Shape := ⟨3, ![8, 2048, 96]⟩
abbrev S8x2048x8x64 : Shape := ⟨4, ![8, 2048, 8, 64]⟩
abbrev S8x2048x8x16 : Shape := ⟨4, ![8, 2048, 8, 16]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S1x2048x8 : Shape := ⟨3, ![1, 2048, 8]⟩
abbrev S8x2048x48 : Shape := ⟨3, ![8, 2048, 48]⟩
abbrev S1x256 : Shape := ⟨2, ![1, 256]⟩
abbrev S256 : Shape := ⟨1, ![256]⟩
abbrev S1x1x256 : Shape := ⟨3, ![1, 1, 256]⟩
abbrev S1x256x768 : Shape := ⟨3, ![1, 256, 768]⟩
abbrev S256x768 : Shape := ⟨2, ![256, 768]⟩
abbrev S8x2048x768 : Shape := ⟨3, ![8, 2048, 768]⟩
abbrev S8x2048x4x192 : Shape := ⟨4, ![8, 2048, 4, 192]⟩
abbrev S8x2048x4x64 : Shape := ⟨4, ![8, 2048, 4, 64]⟩
abbrev S2048x1x32 : Shape := ⟨3, ![2048, 1, 32]⟩
abbrev S1x2048x1x32 : Shape := ⟨4, ![1, 2048, 1, 32]⟩
abbrev S1x128 : Shape := ⟨2, ![1, 128]⟩
abbrev S128 : Shape := ⟨1, ![128]⟩
abbrev S1x1x128 : Shape := ⟨3, ![1, 1, 128]⟩
abbrev S1x128x1024 : Shape := ⟨3, ![1, 128, 1024]⟩
abbrev S128x1024 : Shape := ⟨2, ![128, 1024]⟩
abbrev S8x2048x4x256 : Shape := ⟨4, ![8, 2048, 4, 256]⟩
abbrev S1x2048x32 : Shape := ⟨3, ![1, 2048, 32]⟩
abbrev S16384x768 : Shape := ⟨2, ![16384, 768]⟩
abbrev S8x2048x56 : Shape := ⟨3, ![8, 2048, 56]⟩
abbrev S8x2048x640 : Shape := ⟨3, ![8, 2048, 640]⟩
abbrev S16384x640 : Shape := ⟨2, ![16384, 640]⟩
abbrev S16384x1024 : Shape := ⟨2, ![16384, 1024]⟩
abbrev S16384x128 : Shape := ⟨2, ![16384, 128]⟩
abbrev S8x2048x1536 : Shape := ⟨3, ![8, 2048, 1536]⟩
abbrev S16384x1536 : Shape := ⟨2, ![16384, 1536]⟩

abbrev nBuf : Space → Nat
  | .hbm => 302
  | .vmem => 0
  | .smem => 0
  | _ => 0

abbrev hbmTy0_0 (i : Nat) : BufTy := match i % 128 with
  | 0 => ⟨S8x2048x1024, .f32⟩
  | 1 => ⟨S2x1024, .f32⟩
  | 2 => ⟨S2x1024x6408, .f32⟩
  | 3 => ⟨S2x256, .f32⟩
  | 4 => ⟨S2x256x768, .f32⟩
  | 5 => ⟨S2x128, .f32⟩
  | 6 => ⟨S2x128x1024, .f32⟩
  | 7 => ⟨S2048, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x16, .f32⟩
  | 29 => ⟨S2048, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S2048x1, .f32⟩
  | 45 => ⟨S1x8, .f32⟩
  | 46 => ⟨S2048x8, .f32⟩
  | 47 => ⟨S2048x8, .f32⟩
  | 48 => ⟨S2048x8, .f32⟩
  | 49 => ⟨S2048x8, .f32⟩
  | 50 => ⟨S2048x8, .f32⟩
  | 51 => ⟨S2048, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048x1, .f32⟩
  | 67 => ⟨S1x32, .f32⟩
  | 68 => ⟨S2048x32, .f32⟩
  | 69 => ⟨S2048x32, .f32⟩
  | 70 => ⟨S2048x32, .f32⟩
  | 71 => ⟨S2048x32, .f32⟩
  | 72 => ⟨S2048x32, .f32⟩
  | 73 => ⟨S1x1024, .f32⟩
  | 74 => ⟨S1024, .f32⟩
  | 75 => ⟨S8x2048x1024, .f32⟩
  | 76 => ⟨S_, .f32⟩
  | 77 => ⟨S8x2048, .f32⟩
  | 78 => ⟨S8x2048x1, .f32⟩
  | 79 => ⟨S_, .f32⟩
  | 80 => ⟨S8x2048x1, .f32⟩
  | 81 => ⟨S8x2048x1, .f32⟩
  | 82 => ⟨S_, .f32⟩
  | 83 => ⟨S8x2048x1, .f32⟩
  | 84 => ⟨S8x2048x1, .f32⟩
  | 85 => ⟨S8x2048x1, .f32⟩
  | 86 => ⟨S8x2048x1024, .f32⟩
  | 87 => ⟨S8x2048x1024, .f32⟩
  | 88 => ⟨S1x1x1024, .f32⟩
  | 89 => ⟨S8x2048x1024, .f32⟩
  | 90 => ⟨S8x2048x1024, .f32⟩
  | 91 => ⟨S1x1024x6408, .f32⟩
  | 92 => ⟨S1024x6408, .f32⟩
  | 93 => ⟨S8x2048x6408, .f32⟩
  | 94 => ⟨S8x2048x512, .f32⟩
  | 95 => ⟨S8x2048x128, .f32⟩
  | 96 => ⟨S8x2048x128, .f32⟩
  | 97 => ⟨S8x2048x512, .f32⟩
  | 98 => ⟨S8x2048x64, .f32⟩
  | 99 => ⟨S8x2048x8, .f32⟩
  | 100 => ⟨S8x2048x256, .f32⟩
  | 101 => ⟨S8x2048x128, .f32⟩
  | 102 => ⟨S8x2048x64, .f32⟩
  | 103 => ⟨S8x2048x512, .f32⟩
  | 104 => ⟨S8x2048x1024, .f32⟩
  | 105 => ⟨S8x2048x4x128, .f32⟩
  | 106 => ⟨S8x2048x4x32, .f32⟩
  | 107 => ⟨S2048x1x16, .f32⟩
  | 108 => ⟨S2048x1x16, .f32⟩
  | 109 => ⟨S8x2048x4x16, .f32⟩
  | 110 => ⟨S8x2048x4x16, .f32⟩
  | 111 => ⟨S1x2048x1x16, .f32⟩
  | 112 => ⟨S8x2048x4x16, .f32⟩
  | 113 => ⟨S8x2048x4x16, .f32⟩
  | 114 => ⟨S1x2048x1x16, .f32⟩
  | 115 => ⟨S8x2048x4x16, .f32⟩
  | 116 => ⟨S8x2048x4x16, .f32⟩
  | 117 => ⟨S8x2048x4x16, .f32⟩
  | 118 => ⟨S1x2048x1x16, .f32⟩
  | 119 => ⟨S8x2048x4x16, .f32⟩
  | 120 => ⟨S8x2048x4x16, .f32⟩
  | 121 => ⟨S1x2048x1x16, .f32⟩
  | 122 => ⟨S8x2048x4x16, .f32⟩
  | 123 => ⟨S8x2048x4x16, .f32⟩
  | 124 => ⟨S8x2048x4x16, .f32⟩
  | 125 => ⟨S8x2048x4x32, .f32⟩
  | 126 => ⟨S8x2048x4x96, .f32⟩
  | 127 => ⟨S8x2048x4x128, .f32⟩
  | _ => ⟨S8x2048x1024, .f32⟩

abbrev hbmTy0_1 (i : Nat) : BufTy := match i % 128 with
  | 0 => ⟨S8x2048x32, .f32⟩
  | 1 => ⟨S8x2048x16, .f32⟩
  | 2 => ⟨S8x2048x16, .f32⟩
  | 3 => ⟨S1x2048x16, .f32⟩
  | 4 => ⟨S8x2048x16, .f32⟩
  | 5 => ⟨S8x2048x16, .f32⟩
  | 6 => ⟨S1x2048x16, .f32⟩
  | 7 => ⟨S8x2048x16, .f32⟩
  | 8 => ⟨S8x2048x16, .f32⟩
  | 9 => ⟨S8x2048x16, .f32⟩
  | 10 => ⟨S1x2048x16, .f32⟩
  | 11 => ⟨S8x2048x16, .f32⟩
  | 12 => ⟨S8x2048x16, .f32⟩
  | 13 => ⟨S1x2048x16, .f32⟩
  | 14 => ⟨S8x2048x16, .f32⟩
  | 15 => ⟨S8x2048x16, .f32⟩
  | 16 => ⟨S8x2048x16, .f32⟩
  | 17 => ⟨S8x2048x32, .f32⟩
  | 18 => ⟨S8x2048x96, .f32⟩
  | 19 => ⟨S8x2048x128, .f32⟩
  | 20 => ⟨S8x2048x8x64, .f32⟩
  | 21 => ⟨S8x2048x8x16, .f32⟩
  | 22 => ⟨S2048x1x8, .f32⟩
  | 23 => ⟨S2048x1x8, .f32⟩
  | 24 => ⟨S8x2048x8x8, .f32⟩
  | 25 => ⟨S8x2048x8x8, .f32⟩
  | 26 => ⟨S1x2048x1x8, .f32⟩
  | 27 => ⟨S8x2048x8x8, .f32⟩
  | 28 => ⟨S8x2048x8x8, .f32⟩
  | 29 => ⟨S1x2048x1x8, .f32⟩
  | 30 => ⟨S8x2048x8x8, .f32⟩
  | 31 => ⟨S8x2048x8x8, .f32⟩
  | 32 => ⟨S8x2048x8x8, .f32⟩
  | 33 => ⟨S1x2048x1x8, .f32⟩
  | 34 => ⟨S8x2048x8x8, .f32⟩
  | 35 => ⟨S8x2048x8x8, .f32⟩
  | 36 => ⟨S1x2048x1x8, .f32⟩
  | 37 => ⟨S8x2048x8x8, .f32⟩
  | 38 => ⟨S8x2048x8x8, .f32⟩
  | 39 => ⟨S8x2048x8x8, .f32⟩
  | 40 => ⟨S8x2048x8x16, .f32⟩
  | 41 => ⟨S8x2048x8x48, .f32⟩
  | 42 => ⟨S8x2048x8x64, .f32⟩
  | 43 => ⟨S8x2048x16, .f32⟩
  | 44 => ⟨S8x2048x8, .f32⟩
  | 45 => ⟨S8x2048x8, .f32⟩
  | 46 => ⟨S1x2048x8, .f32⟩
  | 47 => ⟨S8x2048x8, .f32⟩
  | 48 => ⟨S8x2048x8, .f32⟩
  | 49 => ⟨S1x2048x8, .f32⟩
  | 50 => ⟨S8x2048x8, .f32⟩
  | 51 => ⟨S8x2048x8, .f32⟩
  | 52 => ⟨S8x2048x8, .f32⟩
  | 53 => ⟨S1x2048x8, .f32⟩
  | 54 => ⟨S8x2048x8, .f32⟩
  | 55 => ⟨S8x2048x8, .f32⟩
  | 56 => ⟨S1x2048x8, .f32⟩
  | 57 => ⟨S8x2048x8, .f32⟩
  | 58 => ⟨S8x2048x8, .f32⟩
  | 59 => ⟨S8x2048x8, .f32⟩
  | 60 => ⟨S8x2048x16, .f32⟩
  | 61 => ⟨S8x2048x48, .f32⟩
  | 62 => ⟨S8x2048x64, .f32⟩
  | 63 => ⟨S1x256, .f32⟩
  | 64 => ⟨S256, .f32⟩
  | 65 => ⟨S8x2048x256, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S_, .f32⟩
  | 73 => ⟨S8x2048x1, .f32⟩
  | 74 => ⟨S8x2048x1, .f32⟩
  | 75 => ⟨S8x2048x1, .f32⟩
  | 76 => ⟨S8x2048x256, .f32⟩
  | 77 => ⟨S8x2048x256, .f32⟩
  | 78 => ⟨S1x1x256, .f32⟩
  | 79 => ⟨S8x2048x256, .f32⟩
  | 80 => ⟨S8x2048x256, .f32⟩
  | 81 => ⟨S1x256x768, .f32⟩
  | 82 => ⟨S256x768, .f32⟩
  | 83 => ⟨S8x2048x768, .f32⟩
  | 84 => ⟨S8x2048x4x192, .f32⟩
  | 85 => ⟨S8x2048x4x128, .f32⟩
  | 86 => ⟨S8x2048x4x64, .f32⟩
  | 87 => ⟨S2048x1x32, .f32⟩
  | 88 => ⟨S2048x1x32, .f32⟩
  | 89 => ⟨S8x2048x4x32, .f32⟩
  | 90 => ⟨S8x2048x4x32, .f32⟩
  | 91 => ⟨S1x2048x1x32, .f32⟩
  | 92 => ⟨S8x2048x4x32, .f32⟩
  | 93 => ⟨S8x2048x4x32, .f32⟩
  | 94 => ⟨S1x2048x1x32, .f32⟩
  | 95 => ⟨S8x2048x4x32, .f32⟩
  | 96 => ⟨S8x2048x4x32, .f32⟩
  | 97 => ⟨S8x2048x4x32, .f32⟩
  | 98 => ⟨S1x2048x1x32, .f32⟩
  | 99 => ⟨S8x2048x4x32, .f32⟩
  | 100 => ⟨S8x2048x4x32, .f32⟩
  | 101 => ⟨S1x2048x1x32, .f32⟩
  | 102 => ⟨S8x2048x4x32, .f32⟩
  | 103 => ⟨S8x2048x4x32, .f32⟩
  | 104 => ⟨S8x2048x4x32, .f32⟩
  | 105 => ⟨S8x2048x4x64, .f32⟩
  | 106 => ⟨S1x128, .f32⟩
  | 107 => ⟨S128, .f32⟩
  | 108 => ⟨S8x2048x128, .f32⟩
  | 109 => ⟨S_, .f32⟩
  | 110 => ⟨S8x2048, .f32⟩
  | 111 => ⟨S8x2048x1, .f32⟩
  | 112 => ⟨S_, .f32⟩
  | 113 => ⟨S8x2048x1, .f32⟩
  | 114 => ⟨S8x2048x1, .f32⟩
  | 115 => ⟨S_, .f32⟩
  | 116 => ⟨S8x2048x1, .f32⟩
  | 117 => ⟨S8x2048x1, .f32⟩
  | 118 => ⟨S8x2048x1, .f32⟩
  | 119 => ⟨S8x2048x128, .f32⟩
  | 120 => ⟨S8x2048x128, .f32⟩
  | 121 => ⟨S1x1x128, .f32⟩
  | 122 => ⟨S8x2048x128, .f32⟩
  | 123 => ⟨S8x2048x128, .f32⟩
  | 124 => ⟨S1x128x1024, .f32⟩
  | 125 => ⟨S128x1024, .f32⟩
  | 126 => ⟨S8x2048x1024, .f32⟩
  | 127 => ⟨S8x2048x4x256, .f32⟩
  | _ => ⟨S8x2048x1024, .f32⟩

abbrev hbmTy0_2 (i : Nat) : BufTy := match i % 128 with
  | 0 => ⟨S8x2048x4x128, .f32⟩
  | 1 => ⟨S8x2048x4x128, .f32⟩
  | 2 => ⟨S8x2048x32, .f32⟩
  | 3 => ⟨S8x2048x32, .f32⟩
  | 4 => ⟨S1x2048x32, .f32⟩
  | 5 => ⟨S8x2048x32, .f32⟩
  | 6 => ⟨S8x2048x32, .f32⟩
  | 7 => ⟨S1x2048x32, .f32⟩
  | 8 => ⟨S8x2048x32, .f32⟩
  | 9 => ⟨S8x2048x32, .f32⟩
  | 10 => ⟨S8x2048x32, .f32⟩
  | 11 => ⟨S1x2048x32, .f32⟩
  | 12 => ⟨S8x2048x32, .f32⟩
  | 13 => ⟨S8x2048x32, .f32⟩
  | 14 => ⟨S1x2048x32, .f32⟩
  | 15 => ⟨S8x2048x32, .f32⟩
  | 16 => ⟨S8x2048x32, .f32⟩
  | 17 => ⟨S8x2048x32, .f32⟩
  | 18 => ⟨S8x2048x64, .f32⟩
  | 19 => ⟨S8x2048x512, .f32⟩
  | 20 => ⟨S8x2048x768, .f32⟩
  | 21 => ⟨S16384x768, .f32⟩
  | 22 => ⟨S16384x768, .bf16⟩
  | 23 => ⟨S8x2048x512, .f32⟩
  | 24 => ⟨S_, .f32⟩
  | 25 => ⟨S8x2048x56, .f32⟩
  | 26 => ⟨S8x2048x640, .f32⟩
  | 27 => ⟨S16384x640, .f32⟩
  | 28 => ⟨S8x2048x512, .f32⟩
  | 29 => ⟨S8x2048x256, .f32⟩
  | 30 => ⟨S8x2048x768, .f32⟩
  | 31 => ⟨S16384x768, .f32⟩
  | 32 => ⟨S16384x768, .bf16⟩
  | 33 => ⟨S8x2048x512, .f32⟩
  | 34 => ⟨S8x2048x512, .f32⟩
  | 35 => ⟨S8x2048x1024, .f32⟩
  | 36 => ⟨S16384x1024, .f32⟩
  | 37 => ⟨S16384x1024, .bf16⟩
  | 38 => ⟨S_, .f32⟩
  | 39 => ⟨S8x2048x64, .f32⟩
  | 40 => ⟨S8x2048x128, .f32⟩
  | 41 => ⟨S16384x128, .f32⟩
  | 42 => ⟨S16384x128, .bf16⟩
  | 43 => ⟨S8x2048x1536, .f32⟩
  | 44 => ⟨S16384x1536, .f32⟩
  | 45 => ⟨S16384x1536, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_cst_14 : Ref sig .tc := ⟨.hbm, 194, rfl⟩
abbrev main_v172 : Ref sig .tc := ⟨.hbm, 195, rfl⟩
abbrev main_v173 : Ref sig .tc := ⟨.hbm, 196, rfl⟩
abbrev main_cst_15 : Ref sig .tc := ⟨.hbm, 197, rfl⟩
abbrev main_v174 : Ref sig .tc := ⟨.hbm, 198, rfl⟩
abbrev main_v175 : Ref sig .tc := ⟨.hbm, 199, rfl⟩
abbrev main_cst_16 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_cst_17 : Ref sig .tc := ⟨.hbm, 237, rfl⟩
abbrev main_v212 : Ref sig .tc := ⟨.hbm, 238, rfl⟩
abbrev main_v213 : Ref sig .tc := ⟨.hbm, 239, rfl⟩
abbrev main_cst_18 : Ref sig .tc := ⟨.hbm, 240, rfl⟩
abbrev main_v214 : Ref sig .tc := ⟨.hbm, 241, rfl⟩
abbrev main_v215 : Ref sig .tc := ⟨.hbm, 242, rfl⟩
abbrev main_cst_19 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_cst_20 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_cst_21 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩

abbrev nD : Nat := 1
abbrev τ : Topo := Topo.v7x

variable {F : FTy → Type} [FloatOps F]
-- ==== Proof.Softmax.lean ====
module

public import Idealize.ShloMosaic.PureOps.Ideal
public import Mathlib.Data.EReal.Inv
public import Mathlib.Algebra.BigOperators.Fin

@[expose] public section

/-! A row of attention over the extended reals: weights `exp (s - max s)`, the weighted sum of the values divided by the sum
of the weights. Keys whose score is `⊥` may be dropped, and the division may be done weight by weight. -/

noncomputable section

namespace Cert.Soft

open Idealize.ShloMosaic

/-- The largest score of a row. -/
def top {n : ℕ} (s : Fin n → EReal) : EReal := (Finset.univ : Finset (Fin n)).fold max ⊥ s

/-- The weight of key `j`, not yet divided by the sum of the weights. -/
def weight {n : ℕ} (s : Fin n → EReal) (j : Fin n) : EReal := Ideal.exp (s j - top s)

/-- The weighted sum of the values, divided once at the end. -/
def late {n : ℕ} (s v : Fin n → EReal) : EReal := Ideal.div (∑ j, weight s j * v j) (∑ j, weight s j)

/-- The weighted sum of the values, each weight divided first. -/
def early {n : ℕ} (s v : Fin n → EReal) : EReal := ∑ j, Ideal.div (weight s j) (∑ j, weight s j) * v j

theorem top_eq_sup {n : ℕ} (s : Fin n → EReal) : top s = Finset.univ.sup s := rfl

theorem sum_first {n N : ℕ} (h : n ≤ N) (f : Fin N → EReal) (hf : ∀ j : Fin N, n ≤ j.val → f j = 0) :
    ∑ j : Fin n, f (Fin.castLE h j) = ∑ j, f j := by
  obtain ⟨k, rfl⟩ := Nat.exists_eq_add_of_le h
  rw [Fin.sum_univ_add, Finset.sum_eq_zero (s := Finset.univ) (f := fun i => f (Fin.natAdd n i)) fun i _ => hf _ (by simp),
    add_zero]
  rfl

theorem top_first {n N : ℕ} (h : n ≤ N) (s : Fin N → EReal) (hs : ∀ j : Fin N, n ≤ j.val → s j = ⊥) :
    top (fun j : Fin n => s (Fin.castLE h j)) = top s := by
  rw [top_eq_sup, top_eq_sup]
  refine le_antisymm (Finset.sup_le fun j _ => Finset.le_sup (f := s) (Finset.mem_univ _)) (Finset.sup_le fun j _ => ?_)
  by_cases hj : n ≤ j.val
  · rw [hs j hj]; exact bot_le
  · exact Finset.le_sup (f := fun j : Fin n => s (Fin.castLE h j)) (Finset.mem_univ (⟨j.val, by omega⟩ : Fin n))

theorem weight_first {n N : ℕ} (h : n ≤ N) (s : Fin N → EReal) (hs : ∀ j : Fin N, n ≤ j.val → s j = ⊥) (j : Fin n) :
    weight (fun j : Fin n => s (Fin.castLE h j)) j = weight s (Fin.castLE h j) := by
  unfold weight; rw [top_first h s hs]

theorem mul_sum_real {n : ℕ} (r : ℝ) (hr : 0 ≤ r) (f : Fin n → EReal) : (∑ j, f j) * (r : EReal) = ∑ j, f j * (r : EReal) := by
  have key : ∀ S : Finset (Fin n), (∑ j ∈ S, f j) * (r : EReal) = ∑ j ∈ S, f j * (r : EReal) := by
    intro S
    induction S using Finset.induction_on with
    | empty => simp
    | insert a S ha ih =>
      rw [Finset.sum_insert ha, Finset.sum_insert ha,
        EReal.right_distrib_of_nonneg_of_ne_top (by exact_mod_cast hr) (EReal.coe_ne_top r), ih]
  exact key _

theorem coe_sum {n : ℕ} (e : Fin n → ℝ) : ((∑ j, e j : ℝ) : EReal) = ∑ j, (e j : EReal) := by
  have key : ∀ S : Finset (Fin n), ((∑ j ∈ S, e j : ℝ) : EReal) = ∑ j ∈ S, (e j : EReal) := by
    intro S
    induction S using Finset.induction_on with
    | empty => simp
    | insert a S ha ih => rw [Finset.sum_insert ha, Finset.sum_insert ha, EReal.coe_add, ih]
  exact key _

/-- A row with a real score and no score `⊤` has a real largest score. -/
theorem top_real {n : ℕ} (s : Fin n → EReal) (hs : ∀ j, s j = ⊥ ∨ ∃ r : ℝ, s j = r) (i : Fin n) (hi : s i ≠ ⊥) :
    ∃ j, ∃ r : ℝ, s j = r ∧ top s = r := by
  rw [top_eq_sup]
  obtain ⟨j, -, hj⟩ := Finset.exists_mem_eq_sup (Finset.univ : Finset (Fin n)) ⟨i, Finset.mem_univ i⟩ s
  rcases hs j with h | ⟨r, h⟩
  · have := Finset.le_sup (f := s) (Finset.mem_univ i)
    rw [hj, h] at this
    exact absurd (le_bot_iff.1 this) hi
  · exact ⟨j, r, h, by rw [hj, h]⟩

/-- THE ROW: over the first `n` of `N` keys, the rest masked, dividing late or early gives one value. -/
theorem late_eq_early {n N : ℕ} (h : n ≤ N) (s v : Fin N → EReal) (hs : ∀ j : Fin N, n ≤ j.val → s j = ⊥)
    (hr : ∀ j, s j = ⊥ ∨ ∃ r : ℝ, s j = r) (i : Fin N) (hi : s i ≠ ⊥) :
    late (fun j : Fin n => s (Fin.castLE h j)) (fun j : Fin n => v (Fin.castLE h j)) = early s v := by
  obtain ⟨j₀, m, hj₀, hm⟩ := top_real s hr i hi
  have hw : ∀ j, ∃ e : ℝ, 0 ≤ e ∧ weight s j = e := by
    intro j
    unfold weight
    rw [hm]
    rcases hr j with hb | ⟨r, hr⟩
    · exact ⟨0, le_rfl, by rw [hb]; rfl⟩
    · exact ⟨Real.exp (r - m), (Real.exp_pos _).le, by rw [hr]; rfl⟩
  choose e he hwe using hw
  have hpos : 0 < ∑ j, e j := by
    refine Finset.sum_pos' (fun j _ => he j) ⟨j₀, Finset.mem_univ _, ?_⟩
    have h1 : weight s j₀ = ((Real.exp (m - m) : ℝ) : EReal) := by unfold weight; rw [hm, hj₀]; rfl
    rw [hwe] at h1
    rw [EReal.coe_eq_coe_iff.1 h1]
    exact Real.exp_pos _
  have h0 : ∀ j : Fin N, n ≤ j.val → weight s j = 0 := by
    intro j hj
    unfold weight
    rw [hm, hs j hj]; rfl
  have hl : ∑ j, weight s j = ((∑ j, e j : ℝ) : EReal) := by
    rw [coe_sum]; exact Finset.sum_congr rfl fun j _ => hwe j
  unfold late early
  simp only [weight_first h s hs]
  rw [sum_first h (fun j => weight s j * v j) fun j hj => by rw [h0 j hj, zero_mul], sum_first h _ h0, hl]
  simp only [Ideal.div_coe hpos.ne']
  rw [mul_sum_real _ (by positivity)]
  exact Finset.sum_congr rfl fun j _ => mul_right_comm _ _ _

end Cert.Soft

end
-- ==== Proof.Block.lean ====
module

public import proofs.«01_k».proof.Proof.Gen.KernelIdeal.Frame
public import proofs.«01_k».proof.Proof.Softmax
public import Idealize.ShloMosaic.Lib.Pointwise
public import Idealize.ShloMosaic.Lib.Pipeline.Value

@[expose] public section

set_option maxRecDepth 16384

/-! The attention's blocks: a block of 128 queries against the first `n` keys, head by head, as one function of the blocks it
reads. -/

noncomputable section

namespace Cert.Mla

open Idealize.ShloMosaic Cert.KernelIdeal

/-- The score of key `j` for query `r` of block `b` in head `h`, masked to the query's own chunk and those before it. -/
def score (b : ℕ) (x0 : Vec Ideal S1x128x768 .bf16) (x1 : Vec Ideal S1x2048x1024 .bf16) (x2 : Vec Ideal S1x2048x128 .bf16)
    (h : Fin 4) (r : Fin 128) (j : Fin 2048) : EReal :=
  if j.val / 64 ≤ (b * 128 + r.val) / 64 then
    ((∑ e : Fin 128, x0 (ix3 0 r ⟨128 * h.val + e.val, by omega⟩) * x1 (ix3 0 j ⟨128 * h.val + e.val, by omega⟩))
      + ∑ e : Fin 64, x0 (ix3 0 r ⟨512 + 64 * h.val + e.val, by omega⟩) * x2 (ix3 0 j ⟨e.val, by omega⟩))
      * Ideal.ofBits .f32 0x3D93CD3A#32
  else ⊥

/-- One head's output for query `r`, lane `d`, over the first `n` keys. -/
def head (n : ℕ) (hn : n ≤ 2048) (b : ℕ) (x0 : Vec Ideal S1x128x768 .bf16) (x1 : Vec Ideal S1x2048x1024 .bf16)
    (x2 : Vec Ideal S1x2048x128 .bf16) (h : Fin 4) (r : Fin 128) (d : Fin 128) : EReal :=
  Soft.late (fun j : Fin n => score b x0 x1 x2 h r (Fin.castLE hn j))
    (fun j : Fin n => x1 (ix3 0 (Fin.castLE hn j) ⟨512 + 128 * h.val + d.val, by omega⟩))

/-- The whole output block: lane `l` is lane `l % 128` of head `l / 128`. -/
def block (n : ℕ) (hn : n ≤ 2048) (b : ℕ) (x0 : Vec Ideal S1x128x768 .bf16) (x1 : Vec Ideal S1x2048x1024 .bf16)
    (x2 : Vec Ideal S1x2048x128 .bf16) : Vec Ideal S1x128x512 .bf16 := fun y =>
  head n hn b x0 x1 x2 ⟨(y 2).val / 128, by have : (y 2).val < 512 := (y 2).isLt; omega⟩ (y 1)
    ⟨(y 2).val % 128, by omega⟩

/-- The block at a store's own index: head `h`'s store begins at lane `128 h`. -/
theorem block_emb (n : ℕ) (hn : n ≤ 2048) (b : ℕ) (x0 : Vec Ideal S1x128x768 .bf16) (x1 : Vec Ideal S1x2048x1024 .bf16)
    (x2 : Vec Ideal S1x2048x128 .bf16) (o : ℕ)
    (inb : ∀ a, (![0, 0, o] : Fin 3 → ℕ) a + (![1, 128, 128] : Fin 3 → ℕ) a ≤ S1x128x512.size a)
    (h : Fin 4) (ho : o = 128 * h.val) (r d : Fin 128) :
    block n hn b x0 x1 x2
      ((Rect.unit (s := S1x128x512) ![0, 0, o] ![1, 128, 128] inb).emb (show S1x128x128.Idx from ix3 0 r d))
      = head n hn b x0 x1 x2 h r d := by
  have e (k : Fin 512) (hk : k.val = o + 1 * d.val) (q : Fin 128) (hq : q.val = 0 + 1 * r.val) :
      head n hn b x0 x1 x2 ⟨k.val / 128, by omega⟩ q ⟨k.val % 128, by omega⟩ = head n hn b x0 x1 x2 h r d := by
    congr 1
    · exact Fin.ext (show k.val / 128 = h.val by omega)
    · exact Fin.ext (by omega)
    · exact Fin.ext (show k.val % 128 = d.val by omega)
  exact e _ rfl _ rfl

/-- The same at an index by coordinates. -/
theorem block_at (n : ℕ) (hn : n ≤ 2048) (b : ℕ) (x0 : Vec Ideal S1x128x768 .bf16) (x1 : Vec Ideal S1x2048x1024 .bf16)
    (x2 : Vec Ideal S1x2048x128 .bf16) (h : Fin 4) (r d : Fin 128) (l : Fin 512) (hl : l.val = 128 * h.val + d.val) :
    block n hn b x0 x1 x2 (show S1x128x512.Idx from ix3 0 r l) = head n hn b x0 x1 x2 h r d := by
  have e (k : Fin 4) (hk : k = h) (q : Fin 128) (hq : q = d) : head n hn b x0 x1 x2 k r q = head n hn b x0 x1 x2 h r d := by
    subst hk hq; rfl
  exact e _ (Fin.ext (show l.val / 128 = h.val by omega)) _ (Fin.ext (show l.val % 128 = d.val by omega))

theorem shr6 (k : ℕ) (hk : k < 4096) : IntOp.shrsi ArithUnit.vector (BitVec.ofNat 32 k) 6#32 = BitVec.ofNat 32 (k / 64) :=
  (by decide +kernel : ∀ k : Fin 4096, IntOp.shrsi ArithUnit.vector (BitVec.ofNat 32 k.val) 6#32 = BitVec.ofNat 32 (k.val / 64)) ⟨k, hk⟩

theorem sle_word (a b : ℕ) (ha : a < 64) (hb : b < 64) :
    IntOp.cmpi CmpIPredicate.sle (BitVec.ofNat 32 a) (BitVec.ofNat 32 b) = if a ≤ b then 1#1 else 0#1 :=
  (by decide +kernel : ∀ a b : Fin 64, IntOp.cmpi CmpIPredicate.sle (BitVec.ofNat 32 a.val) (BitVec.ofNat 32 b.val)
    = if a.val ≤ b.val then 1#1 else 0#1) ⟨a, ha⟩ ⟨b, hb⟩

/-- The kernel's chunk mask on words is the one on naturals. -/
theorem mask_word (b : ℕ) (hb : b < 16) (r : Fin 128) (j : ℕ) (hj : j < 2048) :
    IntOp.cmpi CmpIPredicate.sle (IntOp.shrsi ArithUnit.vector (BitVec.ofNat 32 j) 6#32)
      (IntOp.shrsi ArithUnit.vector (IntOp.addi (Scalar.muli (BitVec.ofNat 32 b) 128#32) (BitVec.ofNat 32 r.val)) 6#32)
    = if j / 64 ≤ (b * 128 + r.val) / 64 then 1#1 else 0#1 := by
  have e : IntOp.addi (Scalar.muli (BitVec.ofNat 32 b) 128#32) (BitVec.ofNat 32 r.val) = BitVec.ofNat 32 (b * 128 + r.val) := by
    rw [BitVec.ofNat_add, BitVec.ofNat_mul]; rfl
  rw [e, shr6 _ (by omega), shr6 _ (by omega), sle_word _ _ (by omega) (by omega)]

theorem neg_inf : Ideal.ofBits .f32 0xFF800000#32 = ⊥ := by simp [Ideal.ofBits, Ideal.ieee]

/-- A masked score as the kernel selects it. -/
theorem sel_word (b : ℕ) (hb : b < 16) (r : Fin 128) (j : ℕ) (hj : j < 2048) (a : EReal) :
    Scalar.select (IntOp.cmpi CmpIPredicate.sle (IntOp.shrsi ArithUnit.vector (BitVec.ofNat 32 j) 6#32)
      (IntOp.shrsi ArithUnit.vector (IntOp.addi (Scalar.muli (BitVec.ofNat 32 b) 128#32) (BitVec.ofNat 32 r.val)) 6#32)) a ⊥
    = if j / 64 ≤ (b * 128 + r.val) / 64 then a else ⊥ := by
  rw [mask_word b hb r j hj]
  by_cases h : j / 64 ≤ (b * 128 + r.val) / 64 <;> simp [h, Scalar.select]

theorem late_of {n : ℕ} {s s' v v' : Fin n → EReal} (hs : ∀ j, s j = s' j) (hv : ∀ j, v j = v' j) :
    Soft.late s v = Soft.late s' v' := by
  rw [funext hs, funext hv]

end Cert.Mla

end
-- ==== Proof.Cases.lean ====
module

public import proofs.«01_k».proof.Proof.Block

@[expose] public section

set_option maxRecDepth 16384

/-! What each of the kernel's eight branches leaves in its output block: the attention over the first 256, 512, … 2048 keys. -/

noncomputable section

namespace Cert.Mla

open Idealize.ShloMosaic Idealize.ShloMosaic.TcCoe Idealize.ShloMosaic.Tactic Idealize.SL.Sem
open Cert.KernelIdeal Cert.KernelIdeal.Gen

variable (c : Dev nD) (i : grid0.Coords) (b : ℕ) (hb : b < 16) (hi : (i 1).val = b)
  (arg2 : Memref sig .tc .vmem S1x128x768 .bf16) (harg2 : arg2.IsWhole)
  (arg3 : Memref sig .tc .vmem S1x2048x1024 .bf16) (harg3 : arg3.IsWhole)
  (arg4 : Memref sig .tc .vmem S1x2048x128 .bf16) (harg4 : arg4.IsWhole)
  (arg5 : Memref sig .tc .vmem S1x128x512 .bf16) (harg5 : arg5.IsWhole)
  (q : Vec Ideal S1x128x768 .bf16) (kv : Vec Ideal S1x2048x1024 .bf16) (kr : Vec Ideal S1x2048x128 .bf16)

include hb hi in
/-- The branch over 256 keys. -/
theorem out_A (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) :
    out0_A_3 c i arg2 harg2 arg3 harg3 arg4 harg4 arg5 harg5 hc0 hc1 hc2 hc3 hc4 hc5 hc6 hc7 q kv kr
      = block 256 (by decide) b q kv kr := by
  have hcov := cover0_A_3 c i arg2 harg2 arg3 harg3 arg4 harg4 arg5 harg5 hc0 hc1 hc2 hc3 hc4 hc5 hc6 hc7 q kv kr
  unfold out0_A_3
  rw [View.read_writes_eq_canon _ _ _ hcov]
  funext y
  refine View.canon_apply_of_pieces _ _ ?_ y (hcov y)
  unfold kernelRun0_A
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

include hb hi in
/-- The branch over 512 keys. -/
theorem out_B (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) :
    out0_B_3 c i arg2 harg2 arg3 harg3 arg4 harg4 arg5 harg5 hc0 hc1 hc2 hc3 hc4 hc5 hc6 hc7 q kv kr
      = block 512 (by decide) b q kv kr := by
  have hcov := cover0_B_3 c i arg2 harg2 arg3 harg3 arg4 harg4 arg5 harg5 hc0 hc1 hc2 hc3 hc4 hc5 hc6 hc7 q kv kr
  unfold out0_B_3
  rw [View.read_writes_eq_canon _ _ _ hcov]
  funext y
  refine View.canon_apply_of_pieces _ _ ?_ y (hcov y)
  unfold kernelRun0_B
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

include hb hi in
/-- The branch over 768 keys. -/
theorem out_C (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) :
    out0_C_3 c i arg2 harg2 arg3 harg3 arg4 harg4 arg5 harg5 hc0 hc1 hc2 hc3 hc4 hc5 hc6 hc7 q kv kr
      = block 768 (by decide) b q kv kr := by
  have hcov := cover0_C_3 c i arg2 harg2 arg3 harg3 arg4 harg4 arg5 harg5 hc0 hc1 hc2 hc3 hc4 hc5 hc6 hc7 q kv kr
  unfold out0_C_3
  rw [View.read_writes_eq_canon _ _ _ hcov]
  funext y
  refine View.canon_apply_of_pieces _ _ ?_ y (hcov y)
  unfold kernelRun0_C
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

include hb hi in
/-- The branch over 1024 keys. -/
theorem out_D (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) :
    out0_D_3 c i arg2 harg2 arg3 harg3 arg4 harg4 arg5 harg5 hc0 hc1 hc2 hc3 hc4 hc5 hc6 hc7 q kv kr
      = block 1024 (by decide) b q kv kr := by
  have hcov := cover0_D_3 c i arg2 harg2 arg3 harg3 arg4 harg4 arg5 harg5 hc0 hc1 hc2 hc3 hc4 hc5 hc6 hc7 q kv kr
  unfold out0_D_3
  rw [View.read_writes_eq_canon _ _ _ hcov]
  funext y
  refine View.canon_apply_of_pieces _ _ ?_ y (hcov y)
  unfold kernelRun0_D
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

include hb hi in
/-- The branch over 1280 keys. -/
theorem out_E (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) :
    out0_E_3 c i arg2 harg2 arg3 harg3 arg4 harg4 arg5 harg5 hc0 hc1 hc2 hc3 hc4 hc5 hc6 hc7 q kv kr
      = block 1280 (by decide) b q kv kr := by
  have hcov := cover0_E_3 c i arg2 harg2 arg3 harg3 arg4 harg4 arg5 harg5 hc0 hc1 hc2 hc3 hc4 hc5 hc6 hc7 q kv kr
  unfold out0_E_3
  rw [View.read_writes_eq_canon _ _ _ hcov]
  funext y
  refine View.canon_apply_of_pieces _ _ ?_ y (hcov y)
  unfold kernelRun0_E
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

include hb hi in
/-- The branch over 1536 keys. -/
theorem out_F (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) :
    out0_F_3 c i arg2 harg2 arg3 harg3 arg4 harg4 arg5 harg5 hc0 hc1 hc2 hc3 hc4 hc5 hc6 hc7 q kv kr
      = block 1536 (by decide) b q kv kr := by
  have hcov := cover0_F_3 c i arg2 harg2 arg3 harg3 arg4 harg4 arg5 harg5 hc0 hc1 hc2 hc3 hc4 hc5 hc6 hc7 q kv kr
  unfold out0_F_3
  rw [View.read_writes_eq_canon _ _ _ hcov]
  funext y
  refine View.canon_apply_of_pieces _ _ ?_ y (hcov y)
  unfold kernelRun0_F
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

include hb hi in
/-- The branch over 1792 keys. -/
theorem out_G (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) :
    out0_G_3 c i arg2 harg2 arg3 harg3 arg4 harg4 arg5 harg5 hc0 hc1 hc2 hc3 hc4 hc5 hc6 hc7 q kv kr
      = block 1792 (by decide) b q kv kr := by
  have hcov := cover0_G_3 c i arg2 harg2 arg3 harg3 arg4 harg4 arg5 harg5 hc0 hc1 hc2 hc3 hc4 hc5 hc6 hc7 q kv kr
  unfold out0_G_3
  rw [View.read_writes_eq_canon _ _ _ hcov]
  funext y
  refine View.canon_apply_of_pieces _ _ ?_ y (hcov y)
  unfold kernelRun0_G
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

include hb hi in
/-- The branch over 2048 keys. -/
theorem out_H (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) :
    out0_H_3 c i arg2 harg2 arg3 harg3 arg4 harg4 arg5 harg5 hc0 hc1 hc2 hc3 hc4 hc5 hc6 hc7 q kv kr
      = block 2048 (by decide) b q kv kr := by
  have hcov := cover0_H_3 c i arg2 harg2 arg3 harg3 arg4 harg4 arg5 harg5 hc0 hc1 hc2 hc3 hc4 hc5 hc6 hc7 q kv kr
  unfold out0_H_3
  rw [View.read_writes_eq_canon _ _ _ hcov]
  funext y
  refine View.canon_apply_of_pieces _ _ ?_ y (hcov y)
  unfold kernelRun0_H
  dsimp only
  sl_unfold_words
  simp only [View.readAt_eq_ld, harg2.read_unread, harg3.read_unread, harg4.read_unread, hi]
  intro p hp
  simp only [List.mem_cons, List.not_mem_nil, or_false] at hp
  rcases hp with rfl | rfl | rfl | rfl
  · intro (x : S1x128x128.Idx)
    idx_vars x
    obtain rfl : x0 = 0 := Subsingleton.elim _ _
    refine Eq.trans ?_ (block_emb _ _ _ _ _ _ _ _ 3 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 2 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 1 rfl x1 x2).symm
    unfold_payloads
    pointwise [neg_inf]
    refine late_of (fun j => (sel_word b hb x1 j.val (by omega) _).trans ?_) (fun j => ?_)
    · rfl
    · rfl
  · intro (x : S1x128x128.Idx)
    idx_vars x
    obtain rfl : x0 = 0 := Subsingleton.elim _ _
    refine Eq.trans ?_ (block_emb _ _ _ _ _ _ _ _ 0 rfl x1 x2).symm
    unfold_payloads
    pointwise [neg_inf]
    refine late_of (fun j => (sel_word b hb x1 j.val (by omega) _).trans ?_) (fun j => ?_)
    · simp only [score, Nat.zero_add, Nat.mul_zero, Nat.add_zero, Fin.val_zero]
      rfl
    · rfl

end Cert.Mla

end
-- ==== Proof.Array.lean ====
module

public import proofs.«01_k».proof.Proof.Cases
public import proofs.«01_k».proof.Proof.Gen.KernelIdeal.Value

@[expose] public section

set_option maxRecDepth 16384

/-! The attention's whole result array: each block in its place, and the row's quotient taken weight by weight. -/

noncomputable section

namespace Cert.Mla

open Idealize.ShloMosaic Idealize.ShloMosaic.TcCoe Idealize.SL.Sem
open Cert.KernelIdeal Cert.KernelIdeal.Gen
open Idealize.ShloMosaic.Pipeline (Dat)

/-- The masked score of key `j` for query `p`, head `h`, batch `bt`. -/
def gscore (Q : S8x2048x768.Idx → EReal) (KV : S8x2048x1024.Idx → EReal) (KR : S8x2048x128.Idx → EReal)
    (bt : Fin 8) (h : Fin 4) (p j : Fin 2048) : EReal :=
  if j.val / 64 ≤ p.val / 64 then
    ((∑ e : Fin 128, Q (ix3 bt p ⟨128 * h.val + e.val, by omega⟩) * KV (ix3 bt j ⟨128 * h.val + e.val, by omega⟩))
      + ∑ e : Fin 64, Q (ix3 bt p ⟨512 + 64 * h.val + e.val, by omega⟩) * KR (ix3 bt j ⟨e.val, by omega⟩))
      * Ideal.ofBits .f32 0x3D93CD3A#32
  else ⊥

/-- Lane `d` of key `j`'s value in head `h`. -/
def gval (KV : S8x2048x1024.Idx → EReal) (bt : Fin 8) (h : Fin 4) (d : Fin 128) (j : Fin 2048) : EReal :=
  KV (ix3 bt j ⟨512 + 128 * h.val + d.val, by omega⟩)

/-- One head's attention for one query and lane. -/
def attn (Q : S8x2048x768.Idx → EReal) (KV : S8x2048x1024.Idx → EReal) (KR : S8x2048x128.Idx → EReal)
    (bt : Fin 8) (p : Fin 2048) (h : Fin 4) (d : Fin 128) : EReal :=
  Soft.early (gscore Q KV KR bt h p) (gval KV bt h d)

/-- What the precondition gives: queries and keys are real. -/
structure Fin3 (Q : S8x2048x768.Idx → EReal) (KV : S8x2048x1024.Idx → EReal) (KR : S8x2048x128.Idx → EReal) : Prop where
  q : ∀ a p l, ∃ r : ℝ, Q (ix3 a p l) = r
  k : ∀ a p (l : Fin 1024), l.val < 512 → ∃ r : ℝ, KV (ix3 a p l) = r
  r : ∀ a p (l : Fin 128), l.val < 64 → ∃ r : ℝ, KR (ix3 a p l) = r

theorem scale_real : ∃ r : ℝ, Ideal.ofBits .f32 0x3D93CD3A#32 = r := by
  simp only [Ideal.ofBits, Ideal.ieee]
  norm_num
  exact ⟨_, rfl⟩

theorem dot_real {n : ℕ} (f g : Fin n → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [Soft.coe_sum]
  exact Finset.sum_congr rfl fun i _ => by rw [ha, hb, EReal.coe_mul]

theorem gscore_real {Q KV KR} (hF : Fin3 Q KV KR) (bt : Fin 8) (h : Fin 4) (p j : Fin 2048) (hj : j.val / 64 ≤ p.val / 64) :
    ∃ r : ℝ, gscore Q KV KR bt h p j = r := by
  unfold gscore
  rw [if_pos hj]
  obtain ⟨x, hx⟩ := dot_real _ _ (fun e : Fin 128 => hF.q bt p ⟨128 * h.val + e.val, by omega⟩)
    (fun e : Fin 128 => hF.k bt j ⟨128 * h.val + e.val, by omega⟩ (show 128 * h.val + e.val < 512 by omega))
  obtain ⟨y, hy⟩ := dot_real _ _ (fun e : Fin 64 => hF.q bt p ⟨512 + 64 * h.val + e.val, by omega⟩)
    (fun e : Fin 64 => hF.r bt j ⟨e.val, by omega⟩ e.isLt)
  obtain ⟨z, hz⟩ := scale_real
  exact ⟨(x + y) * z, by rw [hx, hy, hz, EReal.coe_mul, EReal.coe_add]⟩

theorem gscore_cases {Q KV KR} (hF : Fin3 Q KV KR) (bt : Fin 8) (h : Fin 4) (p j : Fin 2048) :
    gscore Q KV KR bt h p j = ⊥ ∨ ∃ r : ℝ, gscore Q KV KR bt h p j = r := by
  by_cases hj : j.val / 64 ≤ p.val / 64
  · exact .inr (gscore_real hF bt h p j hj)
  · exact .inl (if_neg hj)

/-- Over any number `n` of keys past the query's chunk, dividing at the end, the row is the whole row's. -/
theorem late_attn {Q KV KR} (hF : Fin3 Q KV KR) (n : ℕ) (hn : n ≤ 2048) (bt : Fin 8) (p : Fin 2048) (h : Fin 4) (d : Fin 128)
    (hp : p.val / 64 * 64 + 64 ≤ n) :
    Soft.late (fun j : Fin n => gscore Q KV KR bt h p (Fin.castLE hn j)) (fun j : Fin n => gval KV bt h d (Fin.castLE hn j))
      = attn Q KV KR bt p h d :=
  Soft.late_eq_early hn _ (gval KV bt h d)
    (fun j hj => if_neg (by omega)) (gscore_cases hF bt h p) 0
    (by obtain ⟨r, hr⟩ := gscore_real hF bt h p 0 (by simp); rw [hr]; exact EReal.coe_ne_bot r)

/-! ## The blocks in their places -/

variable (m : (ℓ : Loc nD τ sig) → Buf (Elt Ideal) ℓ) (c : Dev nD)

abbrev Qm : S8x2048x768.Idx → EReal := m ((c : Thread nD τ).loc main_arg0)
abbrev KVm : S8x2048x1024.Idx → EReal := m ((c : Thread nD τ).loc main_arg1)
abbrev KRm : S8x2048x128.Idx → EReal := m ((c : Thread nD τ).loc main_arg2)

theorem index_facts : ∀ t : Fin grid0.N,
    (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0)
    ∧ (grid0.coords t 1).val = t.val % 16 := by decide +kernel

theorem t_lt (t : Fin cfg0.N) : t.val < 128 := lt_of_lt_of_eq t.isLt N_0

theorem iblk0 (t : Fin cfg0.N) (r : Fin 128) (l : Fin 768) :
    iblk m c 0 t (ix3 0 r l : S1x128x768.Idx)
      = Qm m c (ix3 ⟨t.val / 16, by have := t_lt t; omega⟩ ⟨t.val % 16 * 128 + r.val, by omega⟩ l) := by
  show Qm m c ((win0_0.rect t).emb (ix3 0 r l : S1x128x768.Idx)) = _
  obtain ⟨h0, h1, h2⟩ := (index_facts t).1
  congr 1
  funext a
  apply Fin.ext
  refine (win0_0.rect_emb_val t _ a).trans ?_
  match a with
  | 0 => show win0_0.index t 0 * 1 + 0 = t.val / 16; rw [h0]; omega
  | 1 => show win0_0.index t 1 * 128 + r.val = t.val % 16 * 128 + r.val; rw [h1]
  | 2 => show win0_0.index t 2 * 768 + l.val = l.val; rw [h2]; omega

theorem iblk1 (t : Fin cfg0.N) (r : Fin 2048) (l : Fin 1024) :
    iblk m c 1 t (ix3 0 r l : S1x2048x1024.Idx) = KVm m c (ix3 ⟨t.val / 16, by have := t_lt t; omega⟩ r l) := by
  show KVm m c ((win0_1.rect t).emb (ix3 0 r l : S1x2048x1024.Idx)) = _
  obtain ⟨h0, h1, h2⟩ := (index_facts t).2.1
  congr 1
  funext a
  apply Fin.ext
  refine (win0_1.rect_emb_val t _ a).trans ?_
  match a with
  | 0 => show win0_1.index t 0 * 1 + 0 = t.val / 16; rw [h0]; omega
  | 1 => show win0_1.index t 1 * 2048 + r.val = r.val; rw [h1]; omega
  | 2 => show win0_1.index t 2 * 1024 + l.val = l.val; rw [h2]; omega

theorem iblk2 (t : Fin cfg0.N) (r : Fin 2048) (l : Fin 128) :
    iblk m c 2 t (ix3 0 r l : S1x2048x128.Idx) = KRm m c (ix3 ⟨t.val / 16, by have := t_lt t; omega⟩ r l) := by
  show KRm m c ((win0_2.rect t).emb (ix3 0 r l : S1x2048x128.Idx)) = _
  obtain ⟨h0, h1, h2⟩ := (index_facts t).2.2.1
  congr 1
  funext a
  apply Fin.ext
  refine (win0_2.rect_emb_val t _ a).trans ?_
  match a with
  | 0 => show win0_2.index t 0 * 1 + 0 = t.val / 16; rw [h0]; omega
  | 1 => show win0_2.index t 1 * 2048 + r.val = r.val; rw [h1]; omega
  | 2 => show win0_2.index t 2 * 128 + l.val = l.val; rw [h2]; omega

/-- Which index of the array an element of point `t`'s output block is. -/
theorem emb3 (t : Fin cfg0.N) (r : Fin 128) (l : Fin 512) :
    (win0_3.rect t).emb (ix3 0 r l : S1x128x512.Idx)
      = (ix3 ⟨t.val / 16, by have := t_lt t; omega⟩ ⟨t.val % 16 * 128 + r.val, by omega⟩ l : S8x2048x512.Idx) := by
  obtain ⟨h0, h1, h2⟩ := (index_facts t).2.2.2.1
  funext a
  apply Fin.ext
  refine (win0_3.rect_emb_val t _ a).trans ?_
  match a with
  | 0 => show win0_3.index t 0 * 1 + 0 = t.val / 16; rw [h0]; omega
  | 1 => show win0_3.index t 1 * 128 + r.val = t.val % 16 * 128 + r.val; rw [h1]
  | 2 => show win0_3.index t 2 * 512 + l.val = l.val; rw [h2]; omega

/-- A block's row over the first `n` keys is the array's row. -/
theorem head_attn (hF : Fin3 (Qm m c) (KVm m c) (KRm m c)) (n : ℕ) (hn : n ≤ 2048) (t : Fin cfg0.N)
    (hl : t.val % 16 * 128 + 128 ≤ n) (h : Fin 4) (r d : Fin 128) :
    head n hn (t.val % 16) (iblk m c 0 t) (iblk m c 1 t) (iblk m c 2 t) h r d
      = attn (Qm m c) (KVm m c) (KRm m c) ⟨t.val / 16, by have := t_lt t; omega⟩ ⟨t.val % 16 * 128 + r.val, by omega⟩ h d := by
  rw [← late_attn hF n hn _ _ h d (by show (t.val % 16 * 128 + r.val) / 64 * 64 + 64 ≤ n; omega)]
  unfold head
  refine late_of (fun j => ?_) (fun j => iblk1 m c t _ _)
  unfold score gscore
  simp only [iblk0, iblk1, iblk2]

/-- What point `t` writes back is its block of the attention. -/
theorem flushed_at (hF : Fin3 (Qm m c) (KVm m c) (KRm m c)) (t : Fin cfg0.N) (r : Fin 128) (h : Fin 4) (d : Fin 128) :
    (dats m 0 c).flushed 3 t (ix3 0 r ⟨128 * h.val + d.val, by omega⟩ : S1x128x512.Idx)
      = attn (Qm m c) (KVm m c) (KRm m c) ⟨t.val / 16, by have := t_lt t; omega⟩ ⟨t.val % 16 * 128 + r.val, by omega⟩ h d := by
  have key : ∀ (n : ℕ) (hn : n ≤ 2048) (_ : t.val % 16 * 128 + 128 ≤ n) (X : Vec Ideal S1x128x512 .bf16),
      X = block n hn (t.val % 16) (iblk m c 0 t) (iblk m c 1 t) (iblk m c 2 t) →
      (cfg0.win 3).cut (grid0.coords t) X (ix3 0 r ⟨128 * h.val + d.val, by omega⟩ : S1x128x512.Idx)
        = attn (Qm m c) (KVm m c) (KRm m c) ⟨t.val / 16, by have := t_lt t; omega⟩ ⟨t.val % 16 * 128 + r.val, by omega⟩ h d := by
    intro n hn hl X hX
    refine Eq.trans ?_ (head_attn m c hF n hn t hl h r d)
    show X (ix3 0 r ⟨128 * h.val + d.val, _⟩ : S1x128x512.Idx) = _
    rw [hX]
    exact block_at n hn _ _ _ _ h r d _ rfl
  have hi := (index_facts t).2.2.2.2
  have hb : t.val % 16 < 16 := by omega
  by_cases h0 : t.val % 16 ≤ 1
  · rw [Value.flushed3_A m c t h0 (by omega) (by omega) (by omega) (by omega) (by omega) (by omega) (by omega)]
    exact key 256 (by decide) (by omega) _ (out_A c _ _ hb hi _ _ _ _ _ _ _ _ _ _ _ _ _ _ _ _ _ _ _)
  by_cases h1 : t.val % 16 ≤ 3
  · rw [Value.flushed3_B m c t h0 (by omega) (by omega) (by omega) (by omega) (by omega) (by omega) (by omega)]
    exact key 512 (by decide) (by omega) _ (out_B c _ _ hb hi _ _ _ _ _ _ _ _ _ _ _ _ _ _ _ _ _ _ _)
  by_cases h2 : t.val % 16 ≤ 5
  · rw [Value.flushed3_C m c t h0 (by omega) (by omega) (by omega) (by omega) (by omega) (by omega) (by omega)]
    exact key 768 (by decide) (by omega) _ (out_C c _ _ hb hi _ _ _ _ _ _ _ _ _ _ _ _ _ _ _ _ _ _ _)
  by_cases h3 : t.val % 16 ≤ 7
  · rw [Value.flushed3_D m c t h0 (by omega) (by omega) (by omega) (by omega) (by omega) (by omega) (by omega)]
    exact key 1024 (by decide) (by omega) _ (out_D c _ _ hb hi _ _ _ _ _ _ _ _ _ _ _ _ _ _ _ _ _ _ _)
  by_cases h4 : t.val % 16 ≤ 9
  · rw [Value.flushed3_E m c t h0 (by omega) (by omega) (by omega) (by omega) (by omega) (by omega) (by omega)]
    exact key 1280 (by decide) (by omega) _ (out_E c _ _ hb hi _ _ _ _ _ _ _ _ _ _ _ _ _ _ _ _ _ _ _)
  by_cases h5 : t.val % 16 ≤ 11
  · rw [Value.flushed3_F m c t h0 (by omega) (by omega) (by omega) (by omega) (by omega) (by omega) (by omega)]
    exact key 1536 (by decide) (by omega) _ (out_F c _ _ hb hi _ _ _ _ _ _ _ _ _ _ _ _ _ _ _ _ _ _ _)
  by_cases h6 : t.val % 16 ≤ 13
  · rw [Value.flushed3_G m c t h0 (by omega) (by omega) (by omega) (by omega) (by omega) (by omega) (by omega)]
    exact key 1792 (by decide) (by omega) _ (out_G c _ _ hb hi _ _ _ _ _ _ _ _ _ _ _ _ _ _ _ _ _ _ _)
  · rw [Value.flushed3_H m c t h0 (by omega) (by omega) (by omega) (by omega) (by omega) (by omega) (by omega)]
    exact key 2048 (by decide) (by omega) _ (out_H c _ _ hb hi _ _ _ _ _ _ _ _ _ _ _ _ _ _ _ _ _ _ _)

/-- THE RESULT ARRAY, element by element. -/
theorem arr_at (hF : Fin3 (Qm m c) (KVm m c) (KRm m c)) (bt : Fin 8) (p : Fin 2048) (h : Fin 4) (d : Fin 128) :
    (dats m 0 c).arrAt 3 cfg0.N (ix3 bt p ⟨128 * h.val + d.val, by omega⟩ : S8x2048x512.Idx)
      = attn (Qm m c) (KVm m c) (KRm m c) bt p h d := by
  have ht : 16 * bt.val + p.val / 128 < cfg0.N := by rw [show cfg0.N = 128 from N_0]; omega
  have e1 : (16 * bt.val + p.val / 128) / 16 = bt.val := by omega
  have e2 : (16 * bt.val + p.val / 128) % 16 * 128 + p.val % 128 = p.val := by omega
  have he := emb3 ⟨16 * bt.val + p.val / 128, ht⟩ ⟨p.val % 128, by omega⟩ ⟨128 * h.val + d.val, by omega⟩
  simp only [e1, e2, Fin.eta] at he
  rw [← he]
  refine ((dats m 0 c).arrAt_emb_eq_flushed 3 Value.disjoint3 ⟨16 * bt.val + p.val / 128, ht⟩ (flush0_3 _) _).trans ?_
  refine Eq.trans ?_ ((flushed_at m c hF ⟨16 * bt.val + p.val / 128, ht⟩ ⟨p.val % 128, by omega⟩ h d).trans ?_)
  · rfl
  · simp only [e1, e2, Fin.eta]

end Cert.Mla

end
-- ==== Proof.Pre.lean ====
module

public import proofs.«01_k».proof.Proof.Array
public import proofs.«01_k».proof.Pre_finite_scores
public import Idealize.ShloMosaic.Lib.ReduceAll
public import Idealize.ShloMosaic.Lib.Pointwise

@[expose] public section

set_option maxRecDepth 16384

/-! What the precondition says of the elements: every query, key and rotary key read is real. -/

noncomputable section

namespace Cert.Mla

open Idealize.ShloMosaic

theorem pre_facts : Cert.Pre_finite_scores.Facts where
  bitsLt_bf16_f32 := by decide
  slices_S8x2048x1024_S8x2048x512_0_0_0 := by decide
  slices_S8x2048x128_S8x2048x64_0_0_0 := by decide
  bcast_S_S8x2048x768 := by decide
  reducesTo_S8x2048x768_S_d0_1_2 := by decide
  h_S_ := by decide
  bcast_S_S8x2048x512 := by decide
  reducesTo_S8x2048x512_S_d0_1_2 := by decide
  bcast_S_S8x2048x64 := by decide
  reducesTo_S8x2048x64_S_d0_1_2 := by decide

instance : Subsingleton Cert.Pre_finite_scores.S_.Idx := ⟨fun _ _ => funext fun a => a.elim0⟩

theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => exact absurd h (by simp [Ideal.cmp])
  | coe r => exact ⟨r, rfl⟩
  | top => exact absurd h (by simp [Ideal.cmp])

open Cert.Pre_finite_scores in
theorem pre_real [Cert.Pre_finite_scores.Facts] (Q : Vec Ideal S8x2048x768 .bf16) (KV : Vec Ideal S8x2048x1024 .bf16)
    (KR : Vec Ideal S8x2048x128 .bf16) (h : Cert.Pre_finite_scores.fn (F := Ideal) Q KV KR = fun _ => 1#1) : Fin3 Q KV KR := by
  have h0 := congrFun h (fun a => a.elim0)
  obtain ⟨h1, hr⟩ := IntOp.andi_eq_one.1 h0
  obtain ⟨hq, hk⟩ := IntOp.andi_eq_one.1 h1
  refine ⟨fun a p l => ?_, fun a p l hl => ?_, fun a p l hl => ?_⟩
  · exact real_of_lt _ (Host.reduce_andi_all _ _ _ _ _ hq (ix3 a p l))
  · have := Host.reduce_andi_all _ _ _ _ _ hk (ix3 a p ⟨l.val, hl⟩)
    have e : extractStridedSlice S8x2048x512 ![0, 0, 0] KV Facts.slices_S8x2048x1024_S8x2048x512_0_0_0 (ix3 a p ⟨l.val, hl⟩)
        = KV (ix3 a p l) := by pointwise
    exact real_of_lt _ (e ▸ this)
  · have := Host.reduce_andi_all _ _ _ _ _ hr (ix3 a p ⟨l.val, hl⟩)
    have e : extractStridedSlice S8x2048x64 ![0, 0, 0] KR Facts.slices_S8x2048x128_S8x2048x64_0_0_0 (ix3 a p ⟨l.val, hl⟩)
        = KR (ix3 a p l) := by pointwise
    exact real_of_lt _ (e ▸ this)

end Cert.Mla

end
-- ==== Proof.Ref.lean ====
module

public import proofs.«01_k».proof.Proof.Array
public import proofs.«01_k».proof.Proof.Gen.ReferenceIdeal.Read
public import Idealize.ShloMosaic.Lib.Pointwise

@[expose] public section

set_option maxRecDepth 16384

/-! The reference, stage by stage at an index: the same masked scores, their softmax, and the weighted sum of the values. -/

noncomputable section

namespace Cert.Mla

open Idealize.ShloMosaic Cert.ReferenceIdeal Cert.ReferenceIdeal.Read

variable (Q : Vec Ideal S8x2048x768 .bf16) (KV : Vec Ideal S8x2048x1024 .bf16) (KR : Vec Ideal S8x2048x128 .bf16)

/-- The reference's chunk word of a position, signs and remainders included. -/
theorem ref_chunk (p : Fin 2048) : val_main_v13 (F := Ideal) (ix1 p) = BitVec.ofNat 32 (p.val / 64) := by
  revert p
  decide +kernel

theorem ref_mask (bt : Fin 8) (h : Fin 4) (p j : Fin 2048) :
    val_main_call1_v1 (F := Ideal) (ix4 bt h p j) = if j.val / 64 ≤ p.val / 64 then 1#1 else 0#1 := by
  have e : val_main_call1_v1 (F := Ideal) (ix4 bt h p j)
      = IntOp.cmpi .sle (val_main_v13 (F := Ideal) (ix1 j)) (val_main_v13 (F := Ideal) (ix1 p)) := by
    pointwise [val_main_call1_v1, val_main_v25, val_main_v24, val_main_v22, val_main_v23, val_main_v20, val_main_v21]
  rw [e, ref_chunk, ref_chunk]
  exact sle_word _ _ (by omega) (by omega)

theorem ref_score (bt : Fin 8) (h : Fin 4) (p j : Fin 2048) :
    val_main_v26 (F := Ideal) Q KV KR (ix4 bt h p j) = gscore Q KV KR bt h p j := by
  rw [val_main_v26_apply, ref_mask]
  unfold gscore
  split
  · refine (if_pos rfl).trans ?_
    pointwise [val_main_v19, val_main_v18, val_main_cst, val_main_v17, val_main_v16, val_main_v15, val_main_v14, val_main_v11, val_main_v8,
      val_main_v7, val_main_v6, val_main_v5, val_main_v4, val_main_v3, val_main_v2, val_main_v1, val_main_v0]
    refine congrArg (· * _) (congrArg₂ (· + ·) (Finset.sum_congr rfl fun e _ => ?_) (Finset.sum_congr rfl fun e _ => ?_))
    · congr 4 <;> omega
    · rw [mul_comm]
      congr 4
      omega
  · refine (if_neg (by decide)).trans ?_
    pointwise [val_main_call1_v2, val_main_call1_v0, val_main_cst_0]
    exact neg_inf

/-- The largest of a row, over any array of scores. -/
theorem row_top (y : Vec Ideal S8x4x2048x2048 .f32) (bt : Fin 8) (h : Fin 4) (p : Fin 2048) :
    Host.reduce FloatOps.maximumf y (val_main_cst_1 (F := Ideal)) Gen.reducesTo_S8x4x2048x2048_S8x4x2048_d3 Gen.h_S_ (ix3 bt h p)
      = (Finset.univ : Finset (Fin 2048)).fold max (Ideal.ofBits .f32 0xFF800000#32) fun j => y (ix4 bt h p j) := by
  pointwise [val_main_cst_1]

theorem ref_top (bt : Fin 8) (h : Fin 4) (p : Fin 2048) :
    val_main_v29 (F := Ideal) Q KV KR (ix3 bt h p) = Soft.top (gscore Q KV KR bt h p) := by
  rw [val_main_v29_apply]
  unfold val_main_v27
  rw [row_top, neg_inf]
  refine (max_eq_right (le_of_eq_of_le (?_ : _ = ⊥) bot_le)).trans ?_
  · exact neg_inf
  · unfold Soft.top
    exact Finset.fold_congr fun j _ => ref_score Q KV KR bt h p j

theorem ref_weight (bt : Fin 8) (h : Fin 4) (p j : Fin 2048) :
    val_main_v33 (F := Ideal) Q KV KR (ix4 bt h p j) = Soft.weight (gscore Q KV KR bt h p) j := by
  have e : val_main_v31 (F := Ideal) Q KV KR (ix4 bt h p j) = val_main_v29 (F := Ideal) Q KV KR (ix3 bt h p) := by
    unfold val_main_v31 val_main_v30
    generalize val_main_v29 (F := Ideal) Q KV KR = y
    pointwise
  rw [val_main_v33_apply, val_main_v32_apply, e, ref_top, ref_score]
  rfl

theorem ref_early (bt : Fin 8) (h : Fin 4) (p j : Fin 2048) :
    val_main_v37 (F := Ideal) Q KV KR (ix4 bt h p j)
      = Ideal.div (Soft.weight (gscore Q KV KR bt h p) j) (∑ k, Soft.weight (gscore Q KV KR bt h p) k) := by
  have e : val_main_v36 (F := Ideal) Q KV KR (ix4 bt h p j) = ∑ k, Soft.weight (gscore Q KV KR bt h p) k := by
    have e1 : val_main_v36 (F := Ideal) Q KV KR (ix4 bt h p j) = ∑ k : Fin 2048, val_main_v33 (F := Ideal) Q KV KR (ix4 bt h p k) := by
      unfold val_main_v36 val_main_v35 val_main_v34
      generalize val_main_v33 (F := Ideal) Q KV KR = y
      pointwise [val_main_cst_3]
    rw [e1]
    exact Finset.sum_congr rfl fun k _ => ref_weight Q KV KR bt h p k
  rw [val_main_v37_apply, ref_weight, e]
  rfl

/-- The reference's result at an index is the row's attention. -/
theorem ref_at (bt : Fin 8) (p : Fin 2048) (h : Fin 4) (d : Fin 128) :
    val_main_v41 (F := Ideal) Q KV KR (ix3 bt p ⟨h.val * 128 + d.val, by omega⟩) = attn Q KV KR bt p h d := by
  have e : val_main_v41 (F := Ideal) Q KV KR (ix3 bt p ⟨h.val * 128 + d.val, by omega⟩)
      = ∑ j : Fin 2048, KV (ix3 bt j ⟨512 + 128 * h.val + d.val, by omega⟩) * val_main_v37 (F := Ideal) Q KV KR (ix4 bt h p j) := by
    unfold val_main_v41 val_main_v40 val_main_v39 val_main_v38
    generalize val_main_v37 (F := Ideal) Q KV KR = y
    pointwise [val_main_v10, val_main_v9, val_main_v1]
    refine Finset.sum_congr rfl fun j _ => ?_
    congr 3
    exact Fin.ext (show 512 + (h.val * 128 + d.val) = 512 + 128 * h.val + d.val by omega)
  rw [e]
  unfold attn Soft.early gval
  exact Finset.sum_congr rfl fun j _ => by rw [ref_early, mul_comm]

end Cert.Mla

end
-- ==== Proof.ExpWords.lean ====
/- The experts' layer: what the loops' words come to for a routing's tables. -/
module

public import proofs.«01_k».proof.Proof.Gen.Kernel2.Launch
public import proofs.«01_k».proof.Proof.Gen.Kernel2.Skeleton

@[expose] public section

set_option maxRecDepth 16384

namespace Cert.Kernel2.Experts

open Cert.Kernel2.Gen
open Idealize.ShloMosaic

/-- For a count of at most 4096 rows the first loop takes one trip per started chunk, the second none, and both are loops. -/
theorem loops_of_count : ∀ n : Fin 4097, (k0_t1_loop (BitVec.ofNat 32 n.val)).trips = (n.val + 255) / 256
    ∧ (k0_t2_loop (BitVec.ofNat 32 n.val)).trips = 0 ∧ (k0_t1_loop (BitVec.ofNat 32 n.val)).OK ∧ (k0_t2_loop (BitVec.ofNat 32 n.val)).OK := by
  decide +kernel

/-- What the precondition says of one expert's count `n` and offset `v` in one tile. -/
structure Segment (n v : BitVec 32) : Prop where
  count : n.toNat ≤ 4096
  dvd : 8 ∣ v.toNat
  fits : v.toNat + n.toNat + 255 ≤ 4608

variable {n v : BitVec 32}

theorem trips_first (h : n.toNat ≤ 4096) : (k0_t1_loop n).trips = (n.toNat + 255) / 256 := by
  have := (loops_of_count ⟨n.toNat, by omega⟩).1
  simpa only [BitVec.ofNat_toNat, BitVec.setWidth_eq] using this

theorem trips_second (h : n.toNat ≤ 4096) : (k0_t2_loop n).trips = 0 := by
  have := (loops_of_count ⟨n.toNat, by omega⟩).2.1
  simpa only [BitVec.ofNat_toNat, BitVec.setWidth_eq] using this

theorem check_count (h : n.toNat ≤ 4096) : k0_chk1 n := by
  have := (loops_of_count ⟨n.toNat, by omega⟩).2.2
  exact (by simpa only [BitVec.ofNat_toNat, BitVec.setWidth_eq] using this : (k0_t1_loop n).OK ∧ (k0_t2_loop n).OK)

/-- The first row of chunk `k` of a segment. -/
theorem chunk_row (h : Segment n v) (k : Fin (k0_t1_loop n).trips) : (k0_mult1 n v k).toNat = v.toNat + 256 * k.val := by
  have hk := k.isLt
  have ht := trips_first h.count
  have := h.fits
  have := h.count
  have hk' : k.val < (n.toNat + 255) / 256 := by omega
  show (v + (0#32 + BitVec.ofNat 32 k.val * 1#32) * 256#32).toNat = _
  simp only [BitVec.toNat_add, BitVec.toNat_mul, BitVec.toNat_ofNat]
  omega

theorem off3_eq (h : Segment n v) (k : Fin (k0_t1_loop n).trips) : k0_off3 n v k = ![0, v.toNat + 256 * k.val, 0] := by
  rw [← chunk_row h k]; rfl

theorem off2_eq (h : Segment n v) (k : Fin (k0_t1_loop n).trips) : k0_off2 n v k = ![0, v.toNat + 256 * k.val, 0] := by
  rw [← chunk_row h k]; rfl

theorem check_segment (h : Segment n v) : k0_chk2 n v := by
  have e2 := trips_second h.count
  have ht := trips_first h.count
  have := h.fits
  have := h.count
  refine ⟨fun k => ?_, fun k => ?_, fun k => ?_, fun k => ?_, fun k => ?_, fun k => ?_⟩
  · rw [chunk_row h k]
    exact Nat.dvd_add h.dvd (Dvd.dvd.mul_right (by decide) _)
  · have hk := k.isLt
    rw [off2_eq h k]
    intro a; fin_cases a
    · show 0 + 1 ≤ 1; omega
    · show v.toNat + 256 * k.val + 256 ≤ 4608; omega
    · show 0 + 512 ≤ 512; omega
  · have hk := k.isLt
    rw [off3_eq h k]
    intro a; fin_cases a
    · show 0 + 1 ≤ 1; omega
    · show v.toNat + 256 * k.val + 256 ≤ 4608; omega
    · show 0 + 1024 ≤ 1024; omega
  all_goals exact absurd k.isLt (by omega)

end Cert.Kernel2.Experts
-- ==== Proof.ExpTrip.lean ====
/- The experts' layer: what the chunk loop stores. -/
module

public import proofs.«01_k».proof.Proof.Gen.Kernel2.Loops
public import proofs.«01_k».proof.Proof.ExpWords
public import Idealize.ShloMosaic.Lib.WritesUnit
public import Idealize.ShloMosaic.Lib.Pointwise
public import Idealize.ShloMosaic.Lib.Pipeline.Value

@[expose] public section

set_option maxRecDepth 16384

noncomputable section

namespace Cert.Kernel2.Experts

open Cert.Kernel2.Gen
open Idealize.ShloMosaic Idealize.ShloMosaic.TcCoe

variable {F : FTy → Type} [FloatOps F]

/-- The expert's outputs of the 256 rows from row `o` on, as the kernel computes them. -/
def chunk (x0 : Vec F S1x4608x512 .i32) (x1 x2 : Vec F S1x1x1024x256 .bf16) (x3 : Vec F S1x1x256x1024 .bf16) (o : ℕ)
    (inb : ∀ a, (![0, o, 0] : Fin 3 → ℕ) a + S1x256x512.size a ≤ S1x4608x512.size a) : Vec F S1x256x1024 .f32 :=
  k0_pay2 (k0_pay4 (View.ld x0 (Rect.unit (s := S1x4608x512) ![0, o, 0] S1x256x512.size inb))
      (View.ld x1 (Rect.unit (s := S1x1x1024x256) ![0, 0, 0, 0] S1x1x512x256.size inb_S1x1x1024x256_S1x1x512x256_0_0_0_0))
      (View.ld x1 (Rect.unit (s := S1x1x1024x256) ![0, 0, 512, 0] S1x1x512x256.size inb_S1x1x1024x256_S1x1x512x256_0_0_512_0))
      (View.ld x2 (Rect.unit (s := S1x1x1024x256) ![0, 0, 0, 0] S1x1x512x256.size inb_S1x1x1024x256_S1x1x512x256_0_0_0_0))
      (View.ld x2 (Rect.unit (s := S1x1x1024x256) ![0, 0, 512, 0] S1x1x512x256.size inb_S1x1x1024x256_S1x1x512x256_0_0_512_0)))
    (View.ld x3 (Rect.unit (s := S1x1x256x1024) ![0, 0, 0, 0] S1x1x256x1024.size inb_S1x1x256x1024_S1x1x256x1024_0_0_0_0))

theorem trip_pieces (𝒱 : Variants) (c : Dev nD) (bd : Option 𝒱.V) (i : grid0.Coords) (arg2 : Memref sig .tc .smem S8x32 .i32) (harg2 : arg2.IsWhole) (arg3 : Memref sig .tc .smem S8x32 .i32) (harg3 : arg3.IsWhole)
    (arg4 : Memref sig .tc .vmem S1x4608x512 .i32) (harg4 : arg4.IsWhole) (arg5 : Memref sig .tc .vmem S1x1x1024x256 .bf16) (harg5 : arg5.IsWhole) (arg6 : Memref sig .tc .vmem S1x1x1024x256 .bf16) (harg6 : arg6.IsWhole)
    (arg7 : Memref sig .tc .vmem S1x1x256x1024 .bf16) (harg7 : arg7.IsWhole) (arg8 : Memref sig .tc .vmem S1x4608x1024 .f32) (harg8 : arg8.IsWhole)
    (n v : BitVec 32) (h1 : k0_chk1 n) (h2 : k0_chk2 n v)
    (x0 : Vec F S1x4608x512 .i32) (x1 x2 : Vec F S1x1x1024x256 .bf16) (x3 : Vec F S1x1x256x1024 .bf16) (k : Fin (k0_t1_loop n).trips) :
    tripL_k0_t1 (F := F) 𝒱 c bd i arg2 harg2 arg3 harg3 arg4 harg4 arg5 harg5 arg6 harg6 arg7 harg7 arg8 harg8 n h1 v h2 (harg4.unread x0) (harg5.unread x1) (harg6.unread x2) (harg7.unread x3) k
      = [⟨Rect.unit (s := S1x4608x1024) (k0_off3 n v k) S1x256x1024.size (k0_off3_inb n v h2 k),
          k0_pay2 (k0_pay4 (View.ld x0 (Rect.unit (s := S1x4608x512) (k0_off2 n v k) S1x256x512.size (k0_off2_inb n v h2 k)))
              (View.ld x1 (Rect.unit (s := S1x1x1024x256) ![0, 0, 0, 0] S1x1x512x256.size inb_S1x1x1024x256_S1x1x512x256_0_0_0_0))
              (View.ld x1 (Rect.unit (s := S1x1x1024x256) ![0, 0, 512, 0] S1x1x512x256.size inb_S1x1x1024x256_S1x1x512x256_0_0_512_0))
              (View.ld x2 (Rect.unit (s := S1x1x1024x256) ![0, 0, 0, 0] S1x1x512x256.size inb_S1x1x1024x256_S1x1x512x256_0_0_0_0))
              (View.ld x2 (Rect.unit (s := S1x1x1024x256) ![0, 0, 512, 0] S1x1x512x256.size inb_S1x1x1024x256_S1x1x512x256_0_0_512_0)))
            (View.ld x3 (Rect.unit (s := S1x1x256x1024) ![0, 0, 0, 0] S1x1x256x1024.size inb_S1x1x256x1024_S1x1x256x1024_0_0_0_0))⟩] := by
  unfold tripL_k0_t1 trip_k0_t1
  dsimp only
  unfold trip_k0_t1.sl.r
  simp only [View.readAt_eq_ld, harg4.read_unread, harg5.read_unread, harg6.read_unread, harg7.read_unread]

/-- A segment's chunks lie inside the tile. -/
theorem chunk_inb {n v : BitVec 32} (h : Segment n v) (k : Fin (k0_t1_loop n).trips) :
    ∀ a, (![0, v.toNat + 256 * k.val, 0] : Fin 3 → ℕ) a + S1x256x512.size a ≤ S1x4608x512.size a := by
  have := k0_off2_inb n v (check_segment h) k
  rw [off2_eq h k] at this
  exact this

theorem chunk_of_off (x0 : Vec F S1x4608x512 .i32) (x1 x2 : Vec F S1x1x1024x256 .bf16) (x3 : Vec F S1x1x256x1024 .bf16) {n v : BitVec 32} (h : Segment n v)
    (h2 : k0_chk2 n v) (k : Fin (k0_t1_loop n).trips) :
    k0_pay2 (k0_pay4 (View.ld x0 (Rect.unit (s := S1x4608x512) (k0_off2 n v k) S1x256x512.size (k0_off2_inb n v h2 k)))
              (View.ld x1 (Rect.unit (s := S1x1x1024x256) ![0, 0, 0, 0] S1x1x512x256.size inb_S1x1x1024x256_S1x1x512x256_0_0_0_0))
              (View.ld x1 (Rect.unit (s := S1x1x1024x256) ![0, 0, 512, 0] S1x1x512x256.size inb_S1x1x1024x256_S1x1x512x256_0_0_512_0))
              (View.ld x2 (Rect.unit (s := S1x1x1024x256) ![0, 0, 0, 0] S1x1x512x256.size inb_S1x1x1024x256_S1x1x512x256_0_0_0_0))
              (View.ld x2 (Rect.unit (s := S1x1x1024x256) ![0, 0, 512, 0] S1x1x512x256.size inb_S1x1x1024x256_S1x1x512x256_0_0_512_0)))
            (View.ld x3 (Rect.unit (s := S1x1x256x1024) ![0, 0, 0, 0] S1x1x256x1024.size inb_S1x1x256x1024_S1x1x256x1024_0_0_0_0))
      = chunk x0 x1 x2 x3 (v.toNat + 256 * k.val) (chunk_inb h k) := by
  have e : ∀ (o o' : Fin 3 → ℕ) (inb : ∀ a, o a + S1x256x512.size a ≤ S1x4608x512.size a) (inb' : ∀ a, o' a + S1x256x512.size a ≤ S1x4608x512.size a), o = o' →
      View.ld x0 (Rect.unit (s := S1x4608x512) o S1x256x512.size inb) = View.ld x0 (Rect.unit (s := S1x4608x512) o' S1x256x512.size inb') := by
    intro o o' _ _ ho; subst ho; rfl
  unfold chunk
  rw [e _ _ _ (chunk_inb h k) (off2_eq h k)]

/-- What a point's body may leave in the result's block `X`, having found `Y` there. -/
structure Leaves (n v : BitVec 32) (h : Segment n v) (x0 : Vec F S1x4608x512 .i32) (x1 x2 : Vec F S1x1x1024x256 .bf16) (x3 : Vec F S1x1x256x1024 .bf16)
    (first : Prop) (Y X : Vec F S1x4608x1024 .f32) : Prop where
  chunks : ∀ (k : Fin (k0_t1_loop n).trips) (r : Fin 256) (j : Fin 1024) (row : Fin 4608), row.val = v.toNat + 256 * k.val + r.val →
    X (ix3 0 row j) = chunk x0 x1 x2 x3 (v.toNat + 256 * k.val) (chunk_inb h k) (ix3 0 r j)
  kept : ¬ first → ∀ (row : Fin 4608) (j : Fin 1024), row.val < v.toNat ∨ v.toNat + 256 * (k0_t1_loop n).trips ≤ row.val → X (ix3 0 row j) = Y (ix3 0 row j)

/-- The block after the first `kk` trips. -/
theorem read_trips (𝒱 : Variants) (c : Dev nD) (bd : Option 𝒱.V) (i : grid0.Coords) (arg2 : Memref sig .tc .smem S8x32 .i32) (harg2 : arg2.IsWhole) (arg3 : Memref sig .tc .smem S8x32 .i32) (harg3 : arg3.IsWhole)
    (arg4 : Memref sig .tc .vmem S1x4608x512 .i32) (harg4 : arg4.IsWhole) (arg5 : Memref sig .tc .vmem S1x1x1024x256 .bf16) (harg5 : arg5.IsWhole) (arg6 : Memref sig .tc .vmem S1x1x1024x256 .bf16) (harg6 : arg6.IsWhole)
    (arg7 : Memref sig .tc .vmem S1x1x256x1024 .bf16) (harg7 : arg7.IsWhole) (arg8 : Memref sig .tc .vmem S1x4608x1024 .f32) (harg8 : arg8.IsWhole)
    (n v : BitVec 32) (h1 : k0_chk1 n) (h2 : k0_chk2 n v)
    (x0 : Vec F S1x4608x512 .i32) (x1 x2 : Vec F S1x1x1024x256 .bf16) (x3 : Vec F S1x1x256x1024 .bf16)
    (h : Segment n v) (f : BufTy.Contents (Elt F) arg8.view.ty) (L : List (View.Piece (Elt F) S1x4608x1024 .f32)) (kk : ℕ) (hk : kk ≤ (k0_t1_loop n).trips) :
    (∀ (k : Fin (k0_t1_loop n).trips) (r : Fin 256) (j : Fin 1024) (row : Fin 4608), k.val < kk → row.val = v.toNat + 256 * k.val + r.val →
      arg8.view.read (Elt F) (arg8.view.writes (Elt F) f (pb_k0_t1 (F := F) 𝒱 c bd i arg2 harg2 arg3 harg3 arg4 harg4 arg5 harg5 arg6 harg6 arg7 harg7 arg8 harg8 n h1 v h2 (harg4.unread x0) (harg5.unread x1) (harg6.unread x2) (harg7.unread x3) kk ++ L)) (ix3 0 row j)
        = chunk x0 x1 x2 x3 (v.toNat + 256 * k.val) (chunk_inb h k) (ix3 0 r j))
    ∧ ∀ (row : Fin 4608) (j : Fin 1024), row.val < v.toNat ∨ v.toNat + 256 * kk ≤ row.val →
      arg8.view.read (Elt F) (arg8.view.writes (Elt F) f (pb_k0_t1 (F := F) 𝒱 c bd i arg2 harg2 arg3 harg3 arg4 harg4 arg5 harg5 arg6 harg6 arg7 harg7 arg8 harg8 n h1 v h2 (harg4.unread x0) (harg5.unread x1) (harg6.unread x2) (harg7.unread x3) kk ++ L)) (ix3 0 row j)
        = arg8.view.read (Elt F) (arg8.view.writes (Elt F) f L) (ix3 0 row j) := by
  induction kk with
  | zero => exact ⟨fun k _ _ _ hk => absurd hk (Nat.not_lt_zero _), fun _ _ _ => rfl⟩
  | succ kk ih =>
    obtain ⟨ihc, ihk⟩ := ih (Nat.le_of_succ_le hk)
    have es := pb_k0_t1_succ (F := F) 𝒱 c bd i arg2 harg2 arg3 harg3 arg4 harg4 arg5 harg5 arg6 harg6 arg7 harg7 arg8 harg8 n h1 v h2 (harg4.unread x0) (harg5.unread x1) (harg6.unread x2) (harg7.unread x3) ⟨kk, hk⟩
    rw [trip_pieces, chunk_of_off x0 x1 x2 x3 h h2] at es
    simp only at es
    rw [es]
    simp only [List.cons_append, List.nil_append]
    refine ⟨fun k r j row hkk hrow => ?_, fun row j hrow => ?_⟩
    · by_cases hlast : k.val = kk
      · have hke : k = ⟨kk, hk⟩ := Fin.ext hlast
        subst hke
        refine View.read_writes_cons_unit_of_mem arg8.view f (off := k0_off3 n v ⟨kk, hk⟩) (size := S1x256x1024.size) (k0_off3_inb n v h2 ⟨kk, hk⟩) _ _ (ix3 0 row j)
          (show S1x256x1024.Idx from ix3 0 r j) (off3_eq h ⟨kk, hk⟩) ?_
        exact Fin.cons (Nat.zero_add 0).symm (Fin.cons hrow (Fin.cons (Nat.zero_add j.val).symm fun a => a.elim0))
      · rw [View.read_writes_cons_unit_of_not_mem _ _ _ _ _ _ (off3_eq h _) (1 : Fin 3)]
        · exact ihc k r j row (by omega) hrow
        · left
          show row.val < v.toNat + 256 * kk
          have := r.isLt
          omega
    · rw [View.read_writes_cons_unit_of_not_mem _ _ _ _ _ _ (off3_eq h _) (1 : Fin 3)]
      · exact ihk row j (by omega)
      · show row.val < v.toNat + 256 * kk ∨ v.toNat + 256 * kk + 256 ≤ row.val
        omega

/-- The block after the body's two loops, over the pieces `L` written before them. -/
theorem leaves_of_pieces (𝒱 : Variants) (c : Dev nD) (bd : Option 𝒱.V) (i : grid0.Coords) (arg2 : Memref sig .tc .smem S8x32 .i32) (harg2 : arg2.IsWhole) (arg3 : Memref sig .tc .smem S8x32 .i32) (harg3 : arg3.IsWhole)
    (arg4 : Memref sig .tc .vmem S1x4608x512 .i32) (harg4 : arg4.IsWhole) (arg5 : Memref sig .tc .vmem S1x1x1024x256 .bf16) (harg5 : arg5.IsWhole) (arg6 : Memref sig .tc .vmem S1x1x1024x256 .bf16) (harg6 : arg6.IsWhole)
    (arg7 : Memref sig .tc .vmem S1x1x256x1024 .bf16) (harg7 : arg7.IsWhole) (arg8 : Memref sig .tc .vmem S1x4608x1024 .f32) (harg8 : arg8.IsWhole)
    (n v : BitVec 32) (h1 : k0_chk1 n) (h2 : k0_chk2 n v)
    (x0 : Vec F S1x4608x512 .i32) (x1 x2 : Vec F S1x1x1024x256 .bf16) (x3 : Vec F S1x1x256x1024 .bf16) (w : BitVec 32)
    (h : Segment n v) (f : BufTy.Contents (Elt F) arg8.view.ty) (L : List (View.Piece (Elt F) S1x4608x1024 .f32)) (first : Prop) (hL : ¬ first → L = []) :
    Leaves n v h x0 x1 x2 x3 first (arg8.view.read (Elt F) f) (arg8.view.read (Elt F) (arg8.view.writes (Elt F) f
      (pb_k0_t2 (F := F) 𝒱 c bd i arg2 harg2 arg3 harg3 arg4 harg4 arg5 harg5 arg6 harg6 arg7 harg7 arg8 harg8 n h1 v h2 w (harg4.unread x0) (harg5.unread x1) (harg6.unread x2) (harg7.unread x3) (k0_t2_loop n).trips
        ++ (pb_k0_t1 (F := F) 𝒱 c bd i arg2 harg2 arg3 harg3 arg4 harg4 arg5 harg5 arg6 harg6 arg7 harg7 arg8 harg8 n h1 v h2 (harg4.unread x0) (harg5.unread x1) (harg6.unread x2) (harg7.unread x3) (k0_t1_loop n).trips ++ L)))) := by
  rw [trips_second h.count]
  unfold pb_k0_t2
  rw [List.nil_append]
  obtain ⟨hc, hk⟩ := read_trips 𝒱 c bd i arg2 harg2 arg3 harg3 arg4 harg4 arg5 harg5 arg6 harg6 arg7 harg7 arg8 harg8 n v h1 h2 x0 x1 x2 x3 h f L (k0_t1_loop n).trips le_rfl
  refine ⟨fun k r j row => hc k r j row k.isLt, fun hf row j hrow => ?_⟩
  rw [hk row j hrow, hL hf]
  rfl

end Cert.Kernel2.Experts
-- ==== Proof.ExpRun.lean ====
/- The experts' layer: what one point of the grid does to the result's block. -/
module

public import proofs.«01_k».proof.Proof.Gen.Kernel2.Launch
public import proofs.«01_k».proof.Proof.Gen.Kernel2.Skeleton
public import proofs.«01_k».proof.Proof.Gen.Kernel2.Loops
public import proofs.«01_k».proof.Proof.ExpTrip
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.Kernel2.Experts

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

/-- The two tables as memrefs over their whole buffers. -/
abbrev cntM : Memref sig .tc .smem S8x32 .i32 := Memref.whole main_arg0
abbrev offM : Memref sig .tc .smem S8x32 .i32 := Memref.whole main_arg1

/-- A table's contents on core `c`, and the half share of it at contents `f`. -/
abbrev TableAt (c : Dev nD) (M : Memref sig .tc .smem S8x32 .i32) : Type := Buf (Elt F) (M.view.loc (c : Thread nD τ))
abbrev half (c : Dev nD) (M : Memref sig .tc .smem S8x32 .i32) (f : TableAt (F := F) c M) : sProp 𝕄 :=
  M.view.loc (c : Thread nD τ) ↦{fullShare.right} f

/-- The word of a table that a point reads. -/
abbrev word (M : Memref sig .tc .smem S8x32 .i32) (c : Dev nD) (f : TableAt (F := F) c M) (i : grid0.Coords) : BitVec 32 :=
  M.view.readAt (Elt F) (Rect.unit (s := S8x32) (k0_off1 i) S1x1.size (k0_off1_inb i)).toLoadRect f (Shape.Idx.first (numel1_S1x1.symm ▸ Nat.one_pos))

/-- Whether a point is a block's first. -/
abbrev First (i : grid0.Coords) : Prop := (Scalar.cmpi .ne (Scalar.extui (Scalar.cmpi .eq (BitVec.ofNat 32 (i 1).val) 0#32)) 0#32) = 1#1

theorem first_iff : ∀ t : Fin grid0.N, First (grid0.coords t) ↔ t.val % 32 = 0 := fun t => by
  have ht : t.val < 256 := Nat.lt_of_lt_of_eq t.isLt N_0
  have e1 : (grid0.coords t 1).val = t.val / 1 % 32 := Pipeline.Grid.coords_val t 1 (by decide) rfl
  simp only [First, e1]
  word_cmp

set_option maxHeartbeats 1000000 in
/-- A block's first point: the rows after the 4096th are cleared first. -/
theorem body_first (c : Dev nD) (i : grid0.Coords) (arg4 : Memref sig .tc .vmem S1x4608x512 .i32) (harg4 : arg4.IsWhole)
    (arg5 : Memref sig .tc .vmem S1x1x1024x256 .bf16) (harg5 : arg5.IsWhole) (arg6 : Memref sig .tc .vmem S1x1x1024x256 .bf16) (harg6 : arg6.IsWhole)
    (arg7 : Memref sig .tc .vmem S1x1x256x1024 .bf16) (harg7 : arg7.IsWhole) (arg8 : Memref sig .tc .vmem S1x4608x1024 .f32) (harg8 : arg8.IsWhole)
    (h0 : First i) (x0 : Vec F S1x4608x512 .i32) (x1 x2 : Vec F S1x1x1024x256 .bf16) (x3 : Vec F S1x1x256x1024 .bf16) (y : Vec F S1x4608x1024 .f32)
    (cnt : TableAt (F := F) c cntM) (off : TableAt (F := F) c offM) (h : Segment (word cntM c cnt i) (word offM c off i))
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare y ∗ half c cntM cnt ∗ half c offM off
        ∗ (iprop(owns (c : Thread nD τ) arg4 fullShare x0 ∗ owns (c : Thread nD τ) arg5 fullShare x1 ∗ owns (c : Thread nD τ) arg6 fullShare x2
            ∗ owns (c : Thread nD τ) arg7 fullShare x3 ∗ (∃ X, ⌜Leaves _ _ h x0 x1 x2 x3 (First i) y X⌝ ∗ owns (c : Thread nD τ) arg8 fullShare X) ∗ half c cntM cnt ∗ half c offM off) -∗ K ⟨⟩))
      ⊢ wp frame (wpE (defs₀ (F := F)) Variants.none c none) E (cc0__experts_kernel i cntM (Memref.isWhole_whole _) offM (Memref.isWhole_whole _) arg4 harg4 arg5 harg5 arg6 harg6 arg7 harg7 arg8 harg8) K := by
  have h1 := check_count h.count
  have h2 := check_segment h
  simp only [cc0__experts_kernel_eq_skeleton]; unfold cc0__experts_kernel_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3
  sl_exec (disch := first | sl_exact h0 | sl_exact h1 | sl_exact h2)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro
      have hl := leaves_of_pieces (F := F) Variants.none c none i cntM (Memref.isWhole_whole _) offM (Memref.isWhole_whole _) arg4 harg4 arg5 harg5 arg6 harg6 arg7 harg7 arg8 harg8 _ _ h1 h2 x0 x1 x2 x3
        (body_first.sl.v32 c i cnt) h f4 [⟨Rect.unit (s := S1x4608x1024) ![0, 4096, 0] S1x512x1024.size inb_S1x4608x1024_S1x512x1024_0_4096_0, k0_pay1⟩] (First i) (fun hn => absurd h0 hn)
      rw [hf4] at hl
      exact hl
    · iexists _; isplitr
      · ipureintro; rfl
      · iexact H4
  isplitl [HT0]; · iexact HT0
  iexact HT1

set_option maxHeartbeats 1000000 in
/-- A later point. -/
theorem body_later (c : Dev nD) (i : grid0.Coords) (arg4 : Memref sig .tc .vmem S1x4608x512 .i32) (harg4 : arg4.IsWhole)
    (arg5 : Memref sig .tc .vmem S1x1x1024x256 .bf16) (harg5 : arg5.IsWhole) (arg6 : Memref sig .tc .vmem S1x1x1024x256 .bf16) (harg6 : arg6.IsWhole)
    (arg7 : Memref sig .tc .vmem S1x1x256x1024 .bf16) (harg7 : arg7.IsWhole) (arg8 : Memref sig .tc .vmem S1x4608x1024 .f32) (harg8 : arg8.IsWhole)
    (h0 : ¬ First i) (x0 : Vec F S1x4608x512 .i32) (x1 x2 : Vec F S1x1x1024x256 .bf16) (x3 : Vec F S1x1x256x1024 .bf16) (y : Vec F S1x4608x1024 .f32)
    (cnt : TableAt (F := F) c cntM) (off : TableAt (F := F) c offM) (h : Segment (word cntM c cnt i) (word offM c off i))
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare y ∗ half c cntM cnt ∗ half c offM off
        ∗ (iprop(owns (c : Thread nD τ) arg4 fullShare x0 ∗ owns (c : Thread nD τ) arg5 fullShare x1 ∗ owns (c : Thread nD τ) arg6 fullShare x2
            ∗ owns (c : Thread nD τ) arg7 fullShare x3 ∗ (∃ X, ⌜Leaves _ _ h x0 x1 x2 x3 (First i) y X⌝ ∗ owns (c : Thread nD τ) arg8 fullShare X) ∗ half c cntM cnt ∗ half c offM off) -∗ K ⟨⟩))
      ⊢ wp frame (wpE (defs₀ (F := F)) Variants.none c none) E (cc0__experts_kernel i cntM (Memref.isWhole_whole _) offM (Memref.isWhole_whole _) arg4 harg4 arg5 harg5 arg6 harg6 arg7 harg7 arg8 harg8) K := by
  have h1 := check_count h.count
  have h2 := check_segment h
  simp only [cc0__experts_kernel_eq_skeleton]; unfold cc0__experts_kernel_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3
  sl_exec (disch := first | sl_exact h0 | sl_exact h1 | sl_exact h2)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro
      have hl := leaves_of_pieces (F := F) Variants.none c none i cntM (Memref.isWhole_whole _) offM (Memref.isWhole_whole _) arg4 harg4 arg5 harg5 arg6 harg6 arg7 harg7 arg8 harg8 _ _ h1 h2 x0 x1 x2 x3
        (body_later.sl.v32 c i cnt) h f4 [] (First i) (fun _ => rfl)
      rw [hf4, List.append_nil] at hl
      exact hl
    · iexists _; isplitr
      · ipureintro; rfl
      · iexact H4
  isplitl [HT0]; · iexact HT0
  iexact HT1

end Cert.Kernel2.Experts

end
-- ==== Proof.ExpLaunch.lean ====
/- The experts' layer: every point's body under a relation on what it leaves, and the run of the whole call. -/
module

public import proofs.«01_k».proof.Proof.ExpRun
public import Idealize.ShloMosaic.Lib.Claim

@[expose] public section

set_option maxRecDepth 16384

noncomputable section

namespace Cert.Kernel2.Experts

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the call: as at the start, the call being all there is. -/
abbrev entry (c : Dev nD) (b : Ref sig .tc) : Buf (Elt F) ((c : Thread nD τ).loc b) := m ((c : Thread nD τ).loc b)

set_option maxHeartbeats 800000 in
theorem main_shape : Pipeline.HMainP (Ix := Unit) (Name := ℕ) (U := UR sig nD τ) (Lvl := ℕ) pcfgs 0 defs₀ Variants.none m (main (F := F)) (entry m) :=
  Pipeline.hmainP_region pcfgs 0 defs₀ Variants.none m main fun c => (main_chain c).trans rfl

/-- The two tables. -/
def tables : pre0.Contents (Elt F) := fun j => entry m (0 : Dev nD) (pre0.ref j)

theorem entry_tables (c : Dev nD) (j : Fin 2) : entry m c (pre0.ref j) = tables m j := by
  have : c = 0 := Subsingleton.elim _ _
  subst this; rfl

theorem tables_ok : ok0 (F := F) (tables m) := by
  unfold ok0
  trivial

abbrev pinned : (pcfg0 (F := F)).Adm := ⟨tables m, tables_ok m⟩
abbrev cfgP : Pipeline.Cfg sig Λ₀ := cfg0 (pinned m)

theorem halves_eq (c : Dev nD) : (Pipeline.ΦT pre0 (tables m) c : sProp 𝕄) = iprop(half c cntM (tables m 0) ∗ half c offM (tables m 1)) := by
  unfold Pipeline.ΦT Pipeline.prefHeld
  rw [show (Finset.univ : Finset (Fin 2)) = insert (0 : Fin 2) {(1 : Fin 2)} from by decide, bigSep_insert (by decide), bigSep_singleton]
  rfl

/-- The block of window `w` that point `t` works on. -/
def part (c : Dev nD) (w : Fin (cfgP m).W) (t : Fin (cfgP m).N) : (((cfgP m).win w).xblock ((cfgP m).grid.coords t)).Idx → Elt F ((cfgP m).win w).elt :=
  (((cfgP m).win w).blk t).view.read (Elt F) (entry m c (Pipeline.arrRef spec0 w))

abbrev part0 (c : Dev nD) (t : Fin (cfgP m).N) : Vec F S1x4608x512 .i32 := part m c 0 t
abbrev part1 (c : Dev nD) (t : Fin (cfgP m).N) : Vec F S1x1x1024x256 .bf16 := part m c 1 t
abbrev part2 (c : Dev nD) (t : Fin (cfgP m).N) : Vec F S1x1x1024x256 .bf16 := part m c 2 t
abbrev part3 (c : Dev nD) (t : Fin (cfgP m).N) : Vec F S1x1x256x1024 .bf16 := part m c 3 t

/-- A point's count and offset. -/
abbrev cntAt (c : Dev nD) (t : Fin (cfgP m).N) : BitVec 32 := word cntM c (tables m 0) (grid0.coords t)
abbrev offAt (c : Dev nD) (t : Fin (cfgP m).N) : BitVec 32 := word offM c (tables m 1) (grid0.coords t)

/-- What the precondition gives. -/
abbrev Segments : Prop := ∀ (c : Dev nD) (t : Fin (cfgP m).N), Segment (cntAt m c t) (offAt m c t)

/-- The window held to a relation only: the result's. -/
def marked : Fin 5 → Bool := fun w => w.val == 4

/-- The proof data: an input's buffer keeps its block. -/
def data (c : Dev nD) : Dat τ (Elt F) Unit ℕ (UR sig nD τ) ℕ (cfgP m) c where
  A w := entry m c (Pipeline.arrRef spec0 w)
  after w t := match w with
    | ⟨0, _⟩ => part m c 0 t
    | ⟨1, _⟩ => part m c 1 t
    | ⟨2, _⟩ => part m c 2 t
    | ⟨3, _⟩ => part m c 3 t
    | ⟨4, h⟩ => Dat.unnamed (cfg := cfgP m) ⟨4, h⟩ t
  Φ _ := iprop(Pipeline.ΦA spec0 c ∗ Pipeline.ΦT pre0 (tables m) c)
  q _ := fullShare
  owed _ := 0

theorem data_A (c : Dev nD) (w : Fin (cfgP m).W) : (data m c).A w = entry m c (Pipeline.arrRef spec0 w) := by dsimp only [data]
theorem after_0 (c : Dev nD) (t : Fin (cfgP m).N) : (data m c).after 0 t = part m c 0 t := by dsimp only [data]; try rfl
theorem after_1 (c : Dev nD) (t : Fin (cfgP m).N) : (data m c).after 1 t = part m c 1 t := by dsimp only [data]; try rfl
theorem after_2 (c : Dev nD) (t : Fin (cfgP m).N) : (data m c).after 2 t = part m c 2 t := by dsimp only [data]; try rfl
theorem after_3 (c : Dev nD) (t : Fin (cfgP m).N) : (data m c).after 3 t = part m c 3 t := by dsimp only [data]; try rfl

theorem before_0 (c : Dev nD) (t : Fin (cfgP m).N) (d) : (data m c).before 0 t d = part m c 0 t :=
  ((data m c).before_in_eq_fetched 0 rfl (fun _ => rfl) (fun _ _ _ => rfl) (fun t => by rw [after_0]; unfold Dat.blockOf part; rw [data_A]; try rfl) t d).trans
    (by unfold Dat.fetched Dat.blockOf part; rw [data_A]; try rfl)
theorem before_1 (c : Dev nD) (t : Fin (cfgP m).N) (d) : (data m c).before 1 t d = part m c 1 t :=
  ((data m c).before_in_eq_fetched 1 rfl (fun _ => rfl) (fun _ _ _ => rfl) (fun t => by rw [after_1]; unfold Dat.blockOf part; rw [data_A]; try rfl) t d).trans
    (by unfold Dat.fetched Dat.blockOf part; rw [data_A]; try rfl)
theorem before_2 (c : Dev nD) (t : Fin (cfgP m).N) (d) : (data m c).before 2 t d = part m c 2 t :=
  ((data m c).before_in_eq_fetched 2 rfl (fun _ => rfl) (fun _ _ _ => rfl) (fun t => by rw [after_2]; unfold Dat.blockOf part; rw [data_A]; try rfl) t d).trans
    (by unfold Dat.fetched Dat.blockOf part; rw [data_A]; try rfl)
theorem before_3 (c : Dev nD) (t : Fin (cfgP m).N) (d) : (data m c).before 3 t d = part m c 3 t :=
  ((data m c).before_in_eq_fetched 3 rfl (fun _ => rfl) (fun _ _ _ => rfl) (fun t => by rw [after_3]; unfold Dat.blockOf part; rw [data_A]; try rfl) t d).trans
    (by unfold Dat.fetched Dat.blockOf part; rw [data_A]; try rfl)

/-- A relation on the result's block, point by point, that the body keeps: from what the point before left, if there is one in the
same tile. -/
abbrev Kept (hS : Segments m) (R : Dev nD → ℕ → Vec F S1x4608x1024 .f32 → Prop) : Prop :=
  ∀ (c : Dev nD) (t : Fin (cfgP m).N) (Y X : Vec F S1x4608x1024 .f32), (t.val % 32 ≠ 0 → R c (t.val - 1) Y) →
    Leaves (cntAt m c t) (offAt m c t) (hS c t) (part0 m c t) (part1 m c t) (part2 m c t) (part3 m c t) (First (grid0.coords t)) Y X → R c t.val X

/-- The relation on the windows' blocks that `R` makes. -/
def relOf (R : Dev nD → ℕ → Vec F S1x4608x1024 .f32 → Prop) (c : Dev nD) :
    (w : Fin (cfgP m).W) → Fin (cfgP m).N → (((cfgP m).win w).block.Idx → Elt F ((cfgP m).win w).elt) → Prop := fun w t X =>
  match w, X with
  | ⟨4, _⟩, X => R c t.val X
  | _, _ => True

abbrev rdata (R : Dev nD → ℕ → Vec F S1x4608x1024 .f32 → Prop) (c : Dev nD) : RDat τ (Elt F) Unit ℕ (UR sig nD τ) ℕ (cfgP m) c :=
  (data m c).toRRel marked (relOf m R c)

theorem flush_4 : ∀ t : Fin (cfgP m).N, ((cfgP m).win 4).flush t = true ↔ t.val % 32 = 31 :=
  (fun t => Pipeline.Window.flushOf_reads cc0_transform_4 reads0_4 hreads0_4 0 (by decide) (by decide) (Pipeline.Window.sep_of_coord cc0_transform_4 0 0 (fun _ => rfl) (by decide)) (P := 32) (m := 31) (by decide) rfl t
    : ∀ t : Fin grid0.N, Pipeline.Window.flushOf grid0 true cc0_transform_4 t = true ↔ t.val % 32 = 31)

/-- What the body finds in the result's block past a tile's first point is what the point before left. -/
theorem found (R : Dev nD → ℕ → Vec F S1x4608x1024 .f32 → Prop) (c : Dev nD) (t : Fin (cfgP m).N) (Y : Vec F S1x4608x1024 .f32)
    (h : (rdata m R c).Finds 4 t Y) (ht : t.val % 32 ≠ 0) : R c (t.val - 1) Y := by
  have h' := (RDat.finds_of_pos (rdata m R c) (w := 4) (t := t) rfl (by omega) Y).mp h
  rcases h' with hf | hl
  · have := (flush_4 m _).mp hf
    simp only at this
    omega
  · exact Dat.toRRel_leaves (data m c) (fgt := marked) (Rl := relOf m R c) (w := 4) rfl hl

/-- The body as called at a point. -/
abbrev bodyAt (t : Fin (cfgP m).N) : Prog (TpuEff nD τ sig (Elt F) Λ₀ .tc) PUnit :=
  cc0__experts_kernel (grid0.coords t) cntM (Memref.isWhole_whole _) offM (Memref.isWhole_whole _)
    (spec0_0.stage ((cfgP m).slots t 0)) (hstage0_0 (((cfgP m).slots t 0).cast nbuf0_0)) (spec0_1.stage ((cfgP m).slots t 1)) (hstage0_1 (((cfgP m).slots t 1).cast nbuf0_1))
    (spec0_2.stage ((cfgP m).slots t 2)) (hstage0_2 (((cfgP m).slots t 2).cast nbuf0_2)) (spec0_3.stage ((cfgP m).slots t 3)) (hstage0_3 (((cfgP m).slots t 3).cast nbuf0_3))
    (spec0_4.stage ((cfgP m).slots t 4)) (hstage0_4 (((cfgP m).slots t 4).cast nbuf0_4))

def preAt (R : Dev nD → ℕ → Vec F S1x4608x1024 .f32 → Prop) (c : Dev nD) (t : Fin (cfgP m).N) : sProp 𝕄 :=
  iprop((data m c).Φ t.castSucc ∗ (data m c).owesAt () t.castSucc
    ∗ (∃ d, owns (c : Thread nD τ) (spec0_0.stage ((cfgP m).slots t 0)) fullShare ((data m c).before 0 t d))
    ∗ (∃ d, owns (c : Thread nD τ) (spec0_1.stage ((cfgP m).slots t 1)) fullShare ((data m c).before 1 t d))
    ∗ (∃ d, owns (c : Thread nD τ) (spec0_2.stage ((cfgP m).slots t 2)) fullShare ((data m c).before 2 t d))
    ∗ (∃ d, owns (c : Thread nD τ) (spec0_3.stage ((cfgP m).slots t 3)) fullShare ((data m c).before 3 t d))
    ∗ (∃ Y, ⌜(rdata m R c).Finds 4 t Y⌝ ∗ owns (c : Thread nD τ) (spec0_4.stage ((cfgP m).slots t 4)) fullShare Y))

def postAt (R : Dev nD → ℕ → Vec F S1x4608x1024 .f32 → Prop) (c : Dev nD) (t : Fin (cfgP m).N) : sProp 𝕄 :=
  iprop((data m c).Φ t.succ ∗ (data m c).owesAt () t.succ
    ∗ owns (c : Thread nD τ) (spec0_0.stage ((cfgP m).slots t 0)) fullShare ((data m c).after 0 t)
    ∗ owns (c : Thread nD τ) (spec0_1.stage ((cfgP m).slots t 1)) fullShare ((data m c).after 1 t)
    ∗ owns (c : Thread nD τ) (spec0_2.stage ((cfgP m).slots t 2)) fullShare ((data m c).after 2 t)
    ∗ owns (c : Thread nD τ) (spec0_3.stage ((cfgP m).slots t 3)) fullShare ((data m c).after 3 t)
    ∗ (∃ X, ⌜relOf m R c 4 t X⌝ ∗ owns (c : Thread nD τ) (spec0_4.stage ((cfgP m).slots t 4)) fullShare X))

/-- The two cases of the body under one statement. -/
theorem body_any (c : Dev nD) (i : grid0.Coords) (arg4 : Memref sig .tc .vmem S1x4608x512 .i32) (harg4 : arg4.IsWhole)
    (arg5 : Memref sig .tc .vmem S1x1x1024x256 .bf16) (harg5 : arg5.IsWhole) (arg6 : Memref sig .tc .vmem S1x1x1024x256 .bf16) (harg6 : arg6.IsWhole)
    (arg7 : Memref sig .tc .vmem S1x1x256x1024 .bf16) (harg7 : arg7.IsWhole) (arg8 : Memref sig .tc .vmem S1x4608x1024 .f32) (harg8 : arg8.IsWhole)
    (x0 : Vec F S1x4608x512 .i32) (x1 x2 : Vec F S1x1x1024x256 .bf16) (x3 : Vec F S1x1x256x1024 .bf16) (y : Vec F S1x4608x1024 .f32)
    (cnt : TableAt (F := F) c cntM) (off : TableAt (F := F) c offM) (h : Segment (word cntM c cnt i) (word offM c off i))
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare y ∗ half c cntM cnt ∗ half c offM off
        ∗ (iprop(owns (c : Thread nD τ) arg4 fullShare x0 ∗ owns (c : Thread nD τ) arg5 fullShare x1 ∗ owns (c : Thread nD τ) arg6 fullShare x2
            ∗ owns (c : Thread nD τ) arg7 fullShare x3 ∗ (∃ X, ⌜Leaves _ _ h x0 x1 x2 x3 (First i) y X⌝ ∗ owns (c : Thread nD τ) arg8 fullShare X) ∗ half c cntM cnt ∗ half c offM off) -∗ K ⟨⟩))
      ⊢ wp frame (wpE (defs₀ (F := F)) Variants.none c none) E (cc0__experts_kernel i cntM (Memref.isWhole_whole _) offM (Memref.isWhole_whole _) arg4 harg4 arg5 harg5 arg6 harg6 arg7 harg7 arg8 harg8) K := by
  by_cases h0 : First i
  · exact body_first c i arg4 harg4 arg5 harg5 arg6 harg6 arg7 harg7 arg8 harg8 h0 x0 x1 x2 x3 y cnt off h E K
  · exact body_later c i arg4 harg4 arg5 harg5 arg6 harg6 arg7 harg7 arg8 harg8 h0 x0 x1 x2 x3 y cnt off h E K

set_option maxHeartbeats 800000 in
theorem body_sound (hS : Segments m) (R : Dev nD → ℕ → Vec F S1x4608x1024 .f32 → Prop) (hR : Kept m hS R) (c : Dev nD) (t : Fin (cfgP m).N) :
    preAt m R c t ⊢ wp frame (wpE (defs₀ (F := F)) Variants.none c none) Set.univ (bodyAt m t) (fun _ => postAt m R c t) := by
  unfold preAt postAt bodyAt
  simp only [before_0, before_1, before_2, before_3]
  rw [show (data m c).Φ t.succ = (data m c).Φ t.castSucc from rfl, show (data m c).owesAt () t.succ = (data m c).owesAt () t.castSucc from rfl, after_0, after_1, after_2, after_3]
  rw [show (data m c).Φ t.castSucc = iprop(Pipeline.ΦA spec0 c ∗ Pipeline.ΦT pre0 (tables m) c) from rfl, halves_eq]
  iintro ⟨⟨HΦ, ⟨HT0, HT1⟩⟩, Ho, ⟨%d0, H0⟩, ⟨%d1, H1⟩, ⟨%d2, H2⟩, ⟨%d3, H3⟩, ⟨%Y, %hY, H4⟩⟩
  iapply (body_any c (grid0.coords t) _ _ _ _ _ _ _ _ _ _ (part m c 0 t) (part m c 1 t) (part m c 2 t) (part m c 3 t) Y (tables m 0) (tables m 1) (hS c t) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iintro ⟨H0, H1, H2, H3, ⟨%X, %hX, H4⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexists X
  isplitr
  · ipureintro; exact hR c t Y X (fun ht => found m R c t Y hY ht) hX
  · iexact H4

theorem body_row (t : Fin (cfgP m).N) : defs₀ (F := F) .tc (cfgP m).body ((cfgP m).bodyArgs t ((cfgP m).slots t)) = bodyAt m t := by
  unfold defs₀; rw [Defs.onTc_tc]

theorem obligation (hS : Segments m) (R : Dev nD → ℕ → Vec F S1x4608x1024 .f32 → Prop) (hR : Kept m hS R) (c : Dev nD) :
    BodyObligationRel (data (F := F) m c) (defs₀ (F := F)) Variants.none () Set.univ marked (relOf m R c) := fun t => by
  rw [bigSep_W0, bigSep_W0, body_row m]
  exact triple_restated (body_sound m hS R hR c t) rfl .rfl fun _ => .rfl

set_option backward.isDefEq.respectTransparency.types false in
/-- The run: what it leaves of each array is what the relation allows, the other buffers are as at the start, and the counters are
zero. -/
theorem run (hS : Segments m) (R : Dev nD → ℕ → Vec F S1x4608x1024 .f32 → Prop) (hR : Kept m hS R) :
    θ_run defs (onTc (τ := τ) (main (F := F))) (s₀ m ρ) (fun r => RDat.FramePost ((Pipeline.pin pcfgs fun _ => pinned m) 0) (rdata m R) (entry m) r ∧ r.2.sem = fun _ => 0) :=
  RDat.θ_run_frameP (Q' := _) pcfgs (fun _ => pinned m) (0 : Fin 1) launch0 defs₀ Variants.none (rdata m R) m ρ main
    (hbody := fun c => (obligation m hS R hR c).toRRel) (hshare := fun c => (data m c).share_full fun _ => rfl)
    (howed := fun _ _ => rfl) (V := entry m) (hmain := main_shape m) (hA := data_A m) (hpf := entry_tables m) (hΦ := fun _ _ => rfl)

/-- The arguments end unchanged. -/
abbrev ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem args_kept (R : Dev nD → ℕ → Vec F S1x4608x1024 .f32 → Prop) (r : PUnit × MemSt nD τ sig (Elt F))
    (h : RDat.FramePost ((Pipeline.pin pcfgs fun _ => pinned m) 0) (rdata m R) (entry m) r) (c : Dev nD) : ArgsKept m r c :=
  ⟨(h c).2 main_arg0 (by decide : main_arg0 ∈ Pipeline.restRefs sig spec0), (h c).2 main_arg1 (by decide : main_arg1 ∈ Pipeline.restRefs sig spec0),
    RDat.FramePost.arr_in h c 0 rfl, RDat.FramePost.arr_in h c 1 rfl, RDat.FramePost.arr_in h c 2 rfl, RDat.FramePost.arr_in h c 3 rfl⟩

/-- The frame: the whole call runs, whatever the rows hold. -/
theorem run_frame (hS : Segments m) : θ_run defs (onTc (τ := τ) (main (F := F))) (s₀ m ρ) (fun r => (∀ c : Dev nD, ArgsKept m r c) ∧ r.2.sem = fun _ => 0) :=
  (θ_run _ _ _).mono (fun r h => ⟨fun c => args_kept m _ r h.1 c, h.2⟩) (run m ρ hS (fun _ _ _ => True) fun _ _ _ _ _ _ => trivial)

end Cert.Kernel2.Experts

end
-- ==== Proof.ExpValue.lean ====
/- The experts' layer over the extended reals: a chunk's entries. -/
module

public import proofs.«01_k».proof.Proof.ExpTrip
public import Idealize.ShloMosaic.PureOps.Ideal.Laws

@[expose] public section

set_option maxRecDepth 16384

noncomputable section

namespace Cert.Kernel2.Experts

open Cert.Kernel2.Gen
open Idealize.ShloMosaic Idealize.ShloMosaic.TcCoe

/-- The two entries a word holds. -/
def low (w : BitVec 32) : EReal := Ideal.ofBits .f32 (IntOp.shli .host w 16#32)
def high (w : BitVec 32) : EReal := Ideal.ofBits .f32 (IntOp.andi w 4294901760#32)

/-- Entry `d` of a row of words: the first half of the entries are the words' low parts. -/
def entryOf (x : Fin 512 → BitVec 32) (d : Fin 1024) : EReal :=
  if h : d.val < 512 then low (x ⟨d.val, h⟩) else high (x ⟨d.val - 512, by omega⟩)

/-- The gated product of the two projections. -/
def gated (a u : EReal) : EReal := a * Ideal.logistic a * u

/-- One entry of an expert's output for one row. -/
def ffn (x : Fin 512 → BitVec 32) (wg wu : Fin 1024 → Fin 256 → EReal) (wd : Fin 256 → EReal) : EReal :=
  ∑ f : Fin 256, gated (∑ d, entryOf x d * wg d f) (∑ d, entryOf x d * wu d f) * wd f

theorem sum_halves (x : Fin 512 → BitVec 32) (w : Fin 1024 → EReal) :
    ∑ d, entryOf x d * w d = (∑ k : Fin 512, low (x k) * w ⟨k.val, by omega⟩) + ∑ k : Fin 512, high (x k) * w ⟨512 + k.val, by omega⟩ := by
  refine (Fin.sum_univ_add (a := 512) (b := 512) fun d : Fin 1024 => entryOf x d * w d).trans ?_
  refine congrArg₂ (· + ·) (Finset.sum_congr rfl fun k _ => ?_) (Finset.sum_congr rfl fun k _ => ?_)
  · unfold entryOf
    rw [dif_pos (show (Fin.castAdd 512 k).val < 512 from k.isLt)]
    rfl
  · unfold entryOf
    rw [dif_neg (show ¬ (Fin.natAdd 512 k).val < 512 by simp)]
    refine congrArg₂ (· * ·) (congrArg (fun k => high (x k)) (Fin.ext (show 512 + k.val - 512 = k.val by omega))) rfl

theorem shift_word (w : BitVec 32) : IntOp.shli .vector w 16#32 = IntOp.shli .host w 16#32 := by
  simp [IntOp.shli]

theorem gate_at (v37 : Vec Ideal S1x256x512 .i32) (v47 v50 v54 v57 : Vec Ideal S1x1x512x256 .bf16) (r f : Fin 256) :
    k0_pay4 (F := Ideal) v37 v47 v50 v54 v57 (ix2 r f)
      = gated ((∑ k : Fin 512, low (v37 (ix3 0 r k)) * v47 (ix4 0 0 k f)) + ∑ k : Fin 512, high (v37 (ix3 0 r k)) * v50 (ix4 0 0 k f))
          ((∑ k : Fin 512, low (v37 (ix3 0 r k)) * v54 (ix4 0 0 k f)) + ∑ k : Fin 512, high (v37 (ix3 0 r k)) * v57 (ix4 0 0 k f)) := by
  unfold_payloads
  pointwise
  have e : ∀ w : BitVec 32, Ideal.ofBits .f32 (IntOp.shli .vector w 16#32) = low w := fun w => by
    unfold low; rw [shift_word]
  simp only [e]
  rfl

theorem down_at (y : Vec Ideal S256x256 .bf16) (v : Vec Ideal S1x1x256x1024 .bf16) (r : Fin 256) (j : Fin 1024) :
    k0_pay2 (F := Ideal) y v (ix3 0 r j) = ∑ f : Fin 256, y (ix2 r f) * v (ix4 0 0 f j) := by
  unfold_payloads
  pointwise

theorem chunk_at (x0 : Vec Ideal S1x4608x512 .i32) (x1 x2 : Vec Ideal S1x1x1024x256 .bf16) (x3 : Vec Ideal S1x1x256x1024 .bf16) (o : ℕ)
    (inb : ∀ a, (![0, o, 0] : Fin 3 → ℕ) a + S1x256x512.size a ≤ S1x4608x512.size a) (r : Fin 256) (j : Fin 1024) (row : Fin 4608) (hr : row.val = o + r.val) :
    chunk (F := Ideal) x0 x1 x2 x3 o inb (ix3 0 r j)
      = ffn (fun k => x0 (ix3 0 row k)) (fun d f => x1 (ix4 0 0 d f)) (fun d f => x2 (ix4 0 0 d f)) (fun f => x3 (ix4 0 0 f j)) := by
  unfold chunk ffn
  rw [down_at]
  refine Finset.sum_congr rfl fun f _ => ?_
  rw [gate_at, sum_halves, sum_halves]
  have e0 : ∀ k : Fin 512, View.ld x0 (Rect.unit (s := S1x4608x512) ![0, o, 0] S1x256x512.size inb) (ix3 0 r k) = x0 (ix3 0 row k) := fun k => by
    refine congrArg x0 (funext fun a => Fin.ext ?_)
    match a with
    | 0 => rfl
    | 1 => show o + 1 * r.val = row.val; omega
    | 2 => show 0 + 1 * k.val = k.val; omega
  have ea : ∀ (x : Vec Ideal S1x1x1024x256 .bf16) (k : Fin 512), View.ld x (Rect.unit (s := S1x1x1024x256) ![0, 0, 0, 0] S1x1x512x256.size inb_S1x1x1024x256_S1x1x512x256_0_0_0_0) (ix4 0 0 k f)
      = x (ix4 0 0 ⟨k.val, by omega⟩ f) := fun x k => by
    refine congrArg x (funext fun a => Fin.ext ?_)
    match a with
    | 0 => rfl
    | 1 => rfl
    | 2 => show 0 + 1 * k.val = k.val; omega
    | 3 => show 0 + 1 * f.val = f.val; omega
  have eb : ∀ (x : Vec Ideal S1x1x1024x256 .bf16) (k : Fin 512), View.ld x (Rect.unit (s := S1x1x1024x256) ![0, 0, 512, 0] S1x1x512x256.size inb_S1x1x1024x256_S1x1x512x256_0_0_512_0) (ix4 0 0 k f)
      = x (ix4 0 0 ⟨512 + k.val, by omega⟩ f) := fun x k => by
    refine congrArg x (funext fun a => Fin.ext ?_)
    match a with
    | 0 => rfl
    | 1 => rfl
    | 2 => show 512 + 1 * k.val = 512 + k.val; omega
    | 3 => show 0 + 1 * f.val = f.val; omega
  have ed : View.ld x3 (Rect.unit (s := S1x1x256x1024) ![0, 0, 0, 0] S1x1x256x1024.size inb_S1x1x256x1024_S1x1x256x1024_0_0_0_0) (ix4 0 0 f j) = x3 (ix4 0 0 f j) := by
    refine congrArg x3 (funext fun a => Fin.ext ?_)
    match a with
    | 0 => rfl
    | 1 => rfl
    | 2 => show 0 + 1 * f.val = f.val; omega
    | 3 => show 0 + 1 * j.val = j.val; omega
  have eh : ∀ x : Vec Ideal S1x1x1024x256 .bf16, _ := fun x =>
    congrArg₂ (· + ·) (Finset.sum_congr rfl fun k (_ : k ∈ Finset.univ) => congrArg₂ (· * ·) (congrArg low (e0 k)) (ea x k))
      (Finset.sum_congr rfl fun k (_ : k ∈ Finset.univ) => congrArg₂ (· * ·) (congrArg high (e0 k)) (eb x k))
  exact congrArg₂ (· * ·) (congrArg₂ gated (eh x1) (eh x2)) ed

end Cert.Kernel2.Experts

end
-- ==== Proof.ExpArray.lean ====
/- The experts' layer: the result array, each routed row in its place. -/
module

public import proofs.«01_k».proof.Proof.ExpLaunch
public import proofs.«01_k».proof.Proof.ExpValue
public import Idealize.ShloMosaic.Lib.Pipeline.ValueKit

@[expose] public section

set_option maxRecDepth 16384

noncomputable section

namespace Cert.Kernel2.Experts

open Cert.Kernel2.Gen
open Idealize.ShloMosaic Idealize.ShloMosaic.TcCoe
open Idealize.SL.Sem
open Idealize.ShloMosaic.Pipeline (Dat RDat)

theorem places : ∀ t : Fin grid0.N,
    (cc0_transform_0 (grid0.coords t) 0 = t.val / 32 ∧ cc0_transform_0 (grid0.coords t) 1 = 0 ∧ cc0_transform_0 (grid0.coords t) 2 = 0)
    ∧ (cc0_transform_1 (grid0.coords t) 0 = 0 ∧ cc0_transform_1 (grid0.coords t) 1 = t.val % 32 ∧ cc0_transform_1 (grid0.coords t) 2 = 0 ∧ cc0_transform_1 (grid0.coords t) 3 = 0)
    ∧ (cc0_transform_2 (grid0.coords t) 0 = 0 ∧ cc0_transform_2 (grid0.coords t) 1 = t.val % 32 ∧ cc0_transform_2 (grid0.coords t) 2 = 0 ∧ cc0_transform_2 (grid0.coords t) 3 = 0)
    ∧ (cc0_transform_3 (grid0.coords t) 0 = 0 ∧ cc0_transform_3 (grid0.coords t) 1 = t.val % 32 ∧ cc0_transform_3 (grid0.coords t) 2 = 0 ∧ cc0_transform_3 (grid0.coords t) 3 = 0)
    ∧ (cc0_transform_4 (grid0.coords t) 0 = t.val / 32 ∧ cc0_transform_4 (grid0.coords t) 1 = 0 ∧ cc0_transform_4 (grid0.coords t) 2 = 0)
    ∧ (k0_off1 (grid0.coords t) 0 = t.val / 32 ∧ k0_off1 (grid0.coords t) 1 = t.val % 32) := by decide +kernel

variable {F : FTy → Type} [FloatOps F]
variable (m : (ℓ : Loc nD τ sig) → Buf (Elt F) ℓ) (c : Dev nD)

theorem point_lt (t : Fin (cfgP m).N) : t.val < 256 := lt_of_lt_of_eq t.isLt N_0

/-- The tile and the expert of a point. -/
abbrev tileOf (t : Fin (cfgP m).N) : Fin 8 := ⟨t.val / 32, by have := point_lt m t; omega⟩
abbrev expertOf (t : Fin (cfgP m).N) : Fin 32 := ⟨t.val % 32, by omega⟩

/-- The arguments. -/
abbrev Cnt : S8x32.Idx → BitVec 32 := m ((c : Thread nD τ).loc main_arg0)
abbrev Off : S8x32.Idx → BitVec 32 := m ((c : Thread nD τ).loc main_arg1)
abbrev Xs : S8x4608x512.Idx → BitVec 32 := m ((c : Thread nD τ).loc main_arg2)
abbrev Wg : S2x32x1024x256.Idx → F .bf16 := m ((c : Thread nD τ).loc main_arg3)
abbrev Wu : S2x32x1024x256.Idx → F .bf16 := m ((c : Thread nD τ).loc main_arg4)
abbrev Wd : S2x32x256x1024.Idx → F .bf16 := m ((c : Thread nD τ).loc main_arg5)

theorem tables_0 : tables m 0 = Cnt m c := (entry_tables m c 0).symm
theorem tables_1 : tables m 1 = Off m c := (entry_tables m c 1).symm

theorem word_at (f : TableAt (F := F) c cntM) (t : Fin (cfgP m).N) :
    word cntM c f (grid0.coords t) = (f : S8x32.Idx → BitVec 32) (ix2 (tileOf m t) (expertOf m t)) := by
  obtain ⟨h0, h1⟩ := (places t).2.2.2.2.2
  show (f : S8x32.Idx → BitVec 32) _ = _
  congr 1
  funext a
  apply Fin.ext
  match a with
  | 0 => show k0_off1 (grid0.coords t) 0 + 1 * 0 = t.val / 32; omega
  | 1 => show k0_off1 (grid0.coords t) 1 + 1 * 0 = t.val % 32; omega

theorem part0_at (t : Fin (cfgP m).N) (r : Fin 4608) (k : Fin 512) : part0 m c t (ix3 0 r k) = Xs m c (ix3 (tileOf m t) r k) := by
  obtain ⟨h0, h1, h2⟩ := (places t).1
  show Xs m c ((((cfgP m).win 0).rect t).emb (ix3 0 r k : S1x4608x512.Idx)) = _
  congr 1
  refine funext fun (a : Fin 3) => Fin.ext ((((cfgP m).win 0).rect_emb_val t _ a).trans ?_)
  match a with
  | 0 => show cc0_transform_0 (grid0.coords t) 0 * 1 + 0 = t.val / 32; omega
  | 1 => show cc0_transform_0 (grid0.coords t) 1 * 4608 + r.val = r.val; omega
  | 2 => show cc0_transform_0 (grid0.coords t) 2 * 512 + k.val = k.val; omega

theorem part1_at (t : Fin (cfgP m).N) (d : Fin 1024) (f : Fin 256) : part1 m c t (ix4 0 0 d f) = Wg m c (ix4 0 (expertOf m t) d f) := by
  obtain ⟨h0, h1, h2, h3⟩ := (places t).2.1
  show Wg m c ((((cfgP m).win 1).rect t).emb (ix4 0 0 d f : S1x1x1024x256.Idx)) = _
  congr 1
  refine funext fun (a : Fin 4) => Fin.ext ((((cfgP m).win 1).rect_emb_val t _ a).trans ?_)
  match a with
  | 0 => show cc0_transform_1 (grid0.coords t) 0 * 1 + 0 = 0; omega
  | 1 => show cc0_transform_1 (grid0.coords t) 1 * 1 + 0 = t.val % 32; omega
  | 2 => show cc0_transform_1 (grid0.coords t) 2 * 1024 + d.val = d.val; omega
  | 3 => show cc0_transform_1 (grid0.coords t) 3 * 256 + f.val = f.val; omega

theorem part2_at (t : Fin (cfgP m).N) (d : Fin 1024) (f : Fin 256) : part2 m c t (ix4 0 0 d f) = Wu m c (ix4 0 (expertOf m t) d f) := by
  obtain ⟨h0, h1, h2, h3⟩ := (places t).2.2.1
  show Wu m c ((((cfgP m).win 2).rect t).emb (ix4 0 0 d f : S1x1x1024x256.Idx)) = _
  congr 1
  refine funext fun (a : Fin 4) => Fin.ext ((((cfgP m).win 2).rect_emb_val t _ a).trans ?_)
  match a with
  | 0 => show cc0_transform_2 (grid0.coords t) 0 * 1 + 0 = 0; omega
  | 1 => show cc0_transform_2 (grid0.coords t) 1 * 1 + 0 = t.val % 32; omega
  | 2 => show cc0_transform_2 (grid0.coords t) 2 * 1024 + d.val = d.val; omega
  | 3 => show cc0_transform_2 (grid0.coords t) 3 * 256 + f.val = f.val; omega

theorem part3_at (t : Fin (cfgP m).N) (f : Fin 256) (j : Fin 1024) : part3 m c t (ix4 0 0 f j) = Wd m c (ix4 0 (expertOf m t) f j) := by
  obtain ⟨h0, h1, h2, h3⟩ := (places t).2.2.2.1
  show Wd m c ((((cfgP m).win 3).rect t).emb (ix4 0 0 f j : S1x1x256x1024.Idx)) = _
  congr 1
  refine funext fun (a : Fin 4) => Fin.ext ((((cfgP m).win 3).rect_emb_val t _ a).trans ?_)
  match a with
  | 0 => show cc0_transform_3 (grid0.coords t) 0 * 1 + 0 = 0; omega
  | 1 => show cc0_transform_3 (grid0.coords t) 1 * 1 + 0 = t.val % 32; omega
  | 2 => show cc0_transform_3 (grid0.coords t) 2 * 256 + f.val = f.val; omega
  | 3 => show cc0_transform_3 (grid0.coords t) 3 * 1024 + j.val = j.val; omega

/-- Which index of the array an element of point `t`'s result block is. -/
theorem place_4 (t : Fin (cfgP m).N) (r : Fin 4608) (j : Fin 1024) :
    (((cfgP m).win 4).rect t).emb (ix3 0 r j : S1x4608x1024.Idx) = (ix3 (tileOf m t) r j : S8x4608x1024.Idx) := by
  obtain ⟨h0, h1, h2⟩ := (places t).2.2.2.2.1
  refine funext fun (a : Fin 3) => Fin.ext ((((cfgP m).win 4).rect_emb_val t _ a).trans ?_)
  match a with
  | 0 => show cc0_transform_4 (grid0.coords t) 0 * 1 + 0 = t.val / 32; omega
  | 1 => show cc0_transform_4 (grid0.coords t) 1 * 4608 + r.val = r.val; omega
  | 2 => show cc0_transform_4 (grid0.coords t) 2 * 1024 + j.val = j.val; omega

/-- What a routing's tables satisfy. -/
structure Routing (cnt off : S8x32.Idx → BitVec 32) : Prop where
  segment : ∀ b e, Segment (cnt (ix2 b e)) (off (ix2 b e))
  ordered : ∀ (b : Fin 8) (e e' : Fin 32), e.val < e'.val → (off (ix2 b e)).toNat + (cnt (ix2 b e)).toNat ≤ (off (ix2 b e')).toNat

theorem cntAt_eq (t : Fin (cfgP m).N) : cntAt m c t = Cnt m c (ix2 (tileOf m t) (expertOf m t)) := by
  unfold cntAt
  rw [tables_0 m c]
  exact word_at m c _ t

theorem offAt_eq (t : Fin (cfgP m).N) : offAt m c t = Off m c (ix2 (tileOf m t) (expertOf m t)) := by
  unfold offAt
  rw [tables_1 m c]
  exact word_at m c _ t

theorem segments (hT : ∀ c, Routing (Cnt m c) (Off m c)) : Segments m := fun c t => by
  rw [cntAt_eq, offAt_eq]
  exact (hT c).segment _ _

end Cert.Kernel2.Experts

namespace Cert.Kernel2.Experts

open Cert.Kernel2.Gen
open Idealize.ShloMosaic Idealize.ShloMosaic.TcCoe
open Idealize.SL.Sem
open Idealize.ShloMosaic.Pipeline (Dat RDat)

variable (m : (ℓ : Loc nD τ sig) → Buf (Elt Ideal) ℓ)

/-- Expert `e`'s output for row `row` of tile `b`, at lane `j`. -/
def outAt (xs : S8x4608x512.Idx → BitVec 32) (wg wu : S2x32x1024x256.Idx → EReal) (wd : S2x32x256x1024.Idx → EReal)
    (b : Fin 8) (e : Fin 32) (row : Fin 4608) (j : Fin 1024) : EReal :=
  ffn (fun k => xs (ix3 b row k)) (fun d f => wg (ix4 0 e d f)) (fun d f => wu (ix4 0 e d f)) (fun f => wd (ix4 0 e f j))

abbrev outM (c : Dev nD) := outAt (Xs m c) (Wg m c) (Wu m c) (Wd m c)

/-- After point `t` the rows of the tile's experts so far hold their outputs. -/
def Done (c : Dev nD) (t : ℕ) (X : Vec Ideal S1x4608x1024 .f32) : Prop :=
  ∀ (b : Fin 8) (e : Fin 32), b.val = t / 32 → e.val ≤ t % 32 → ∀ row : Fin 4608, (Off m c (ix2 b e)).toNat ≤ row.val →
    row.val < (Off m c (ix2 b e)).toNat + (Cnt m c (ix2 b e)).toNat → ∀ j, X (ix3 0 row j) = outM m c b e row j

theorem chunk_out (c : Dev nD) (t : Fin (cfgP m).N) (o : ℕ) (inb : ∀ a, (![0, o, 0] : Fin 3 → ℕ) a + S1x256x512.size a ≤ S1x4608x512.size a)
    (r : Fin 256) (j : Fin 1024) (row : Fin 4608) (hr : row.val = o + r.val) :
    chunk (F := Ideal) (part0 m c t) (part1 m c t) (part2 m c t) (part3 m c t) o inb (ix3 0 r j) = outM m c (tileOf m t) (expertOf m t) row j := by
  refine (chunk_at _ _ _ _ o inb r j row hr).trans ?_
  unfold outM outAt
  simp only [part0_at, part1_at, part2_at, part3_at]

theorem done_kept (hT : ∀ c, Routing (Cnt m c) (Off m c)) : Kept m (segments m hT) (Done m) := by
  intro c t Y X hY hL b e hb he row h1 h2 j
  have hbt : b = tileOf m t := Fin.ext hb
  have hc := cntAt_eq m c t
  have ho := offAt_eq m c t
  by_cases hee : e.val = t.val % 32
  · have het : e = expertOf m t := Fin.ext hee
    subst hbt het
    rw [← ho] at h1 h2
    rw [← hc] at h2
    have hn := ((segments m hT) c t).count
    have hk : (row.val - (offAt m c t).toNat) / 256 < (k0_t1_loop (cntAt m c t)).trips := by
      rw [trips_first hn]; omega
    refine (hL.chunks ⟨(row.val - (offAt m c t).toNat) / 256, hk⟩ ⟨(row.val - (offAt m c t).toNat) % 256, by omega⟩ j row (by
      show row.val = (offAt m c t).toNat + 256 * ((row.val - (offAt m c t).toNat) / 256) + (row.val - (offAt m c t).toNat) % 256
      omega)).trans ?_
    refine chunk_out m c t _ _ _ j row ?_
    show row.val = (offAt m c t).toNat + 256 * ((row.val - (offAt m c t).toNat) / 256) + (row.val - (offAt m c t).toNat) % 256
    omega
  · have hlt : e.val < t.val % 32 := by omega
    have hno : ¬ First (grid0.coords t) := fun h => by have := (first_iff t).mp h; omega
    have hord := (hT c).ordered b e (expertOf m t) hlt
    refine (hL.kept hno row j (.inl ?_)).trans (hY (by omega) b e (by omega) (by omega) row h1 h2 j)
    rw [ho, ← hbt]
    omega

theorem apart_4 : ∀ t t' : Fin (cfgP m).N, ((cfgP m).win 4).flush t = true → ((cfgP m).win 4).flush t' = true → t ≠ t' →
    Disjoint (((cfgP m).win 4).blk t).view.set (((cfgP m).win 4).blk t').view.set :=
  Pipeline.Window.hdisj_of_index_inj _ fun t t' hf hf' h => by
    have h0 := (places t).2.2.2.2.1.1
    have h0' := (places t').2.2.2.2.1.1
    have e := congrFun h (0 : Fin 3)
    have e' : cc0_transform_4 (grid0.coords t) 0 = cc0_transform_4 (grid0.coords t') 0 := e
    have := (flush_4 m t).mp hf
    have := (flush_4 m t').mp hf'
    exact Fin.ext (by omega)

/-- THE RUN: the arguments are kept, every counter ends at zero, and every routed row holds its expert's output. -/
theorem run_rows (hT : ∀ c, Routing (Cnt m c) (Off m c)) (ρ : Dev nD → PrngReg) :
    θ_run (defs (F := Ideal)) (onTc (τ := τ) (main (F := Ideal))) ⟨m, fun _ => 0, ρ⟩ (fun r =>
      (∀ c : Dev nD,
        (∀ (b : Fin 8) (e : Fin 32) (row : Fin 4608), (Off m c (ix2 b e)).toNat ≤ row.val →
          row.val < (Off m c (ix2 b e)).toNat + (Cnt m c (ix2 b e)).toNat → ∀ j : Fin 1024,
            (r.2.mem ((c : Thread nD τ).loc main_v0) : S8x4608x1024.Idx → EReal) (ix3 b row j) = outM m c b e row j)
          ∧ ArgsKept m r c)
      ∧ r.2.sem = fun _ => 0) := by
  refine (θ_run _ _ _).mono (fun r h => ⟨fun c => ⟨?_, args_kept m _ r h.1 c⟩, h.2⟩) (run m ρ (segments m hT) (Done m) (done_kept m hT))
  obtain ⟨after, hL, hA⟩ := RDat.FramePost.exists_exact h.1 c
  intro b e row h1 h2 j
  have ht : 32 * b.val + 31 < (cfgP m).N := by rw [show (cfgP m).N = 256 from N_0]; omega
  have hf : ((cfgP m).win 4).flush ⟨32 * b.val + 31, ht⟩ = true := (flush_4 m _).mpr (by show (32 * b.val + 31) % 32 = 31; omega)
  have hD : Done m c (32 * b.val + 31) (after 4 ⟨32 * b.val + 31, ht⟩) :=
    Dat.toRRel_leaves (data m c) (fgt := marked) (Rl := relOf m (Done m) c) (w := 4) rfl (hL 4 _ hf)
  have hp := place_4 m ⟨32 * b.val + 31, ht⟩ row j
  have hb : tileOf m ⟨32 * b.val + 31, ht⟩ = b := Fin.ext (show (32 * b.val + 31) / 32 = b.val by omega)
  rw [hb] at hp
  have h4 := ((rdata m (Done m) c).withAfter after).arrAt_emb_eq_flushed 4 (apart_4 m) ⟨32 * b.val + 31, ht⟩ hf (ix3 0 row j : S1x4608x1024.Idx)
  have hm := hA 4
  refine (congrFun hm (ix3 b row j)).trans ?_
  refine Eq.trans ?_ (hD b e (by omega) (by omega) row h1 h2 j)
  rw [← hp]
  exact h4

end Cert.Kernel2.Experts

end
-- ==== Proof.ExpRef.lean ====
/- The experts' layer: the reference at an index. -/
module

public import proofs.«01_k».proof.Proof.ExpArray
public import proofs.«01_k».proof.Proof.Gen.Reference2Ideal.Read
public import Idealize.ShloMosaic.Lib.Pointwise

@[expose] public section

set_option maxRecDepth 16384

noncomputable section

namespace Cert.Kernel2.Experts

open Idealize.ShloMosaic Cert.Reference2Ideal Cert.Reference2Ideal.Read

variable (cnt off : Vec Ideal S8x32 .i32) (xs : Vec Ideal S8x4608x512 .i32) (wg wu : Vec Ideal S2x32x1024x256 .bf16) (wd : Vec Ideal S2x32x256x1024 .bf16)

theorem ref_entry (b : Fin 8) (row : Fin 4608) (d : Fin 1024) :
    val_main_v6 (F := Ideal) xs (ix3 b row d) = entryOf (fun k => xs (ix3 b row k)) d := by
  unfold val_main_v6
  have e2 : ∀ k : Fin 512, val_main_v2 (F := Ideal) xs (ix3 b row k) = low (xs (ix3 b row k)) := fun k => by
    pointwise [val_main_v2, val_main_v1, val_main_v0, val_main_c]
    rfl
  have e5 : ∀ k : Fin 512, val_main_v5 (F := Ideal) xs (ix3 b row k) = high (xs (ix3 b row k)) := fun k => by
    pointwise [val_main_v5, val_main_v4, val_main_v3, val_main_c_0]
    rfl
  generalize val_main_v2 (F := Ideal) xs = y2 at *
  generalize val_main_v5 (F := Ideal) xs = y5 at *
  unfold entryOf
  by_cases h : d.val < 512
  · rw [dif_pos h, ← e2]
    pointwise
    exact dif_pos h
  · rw [dif_neg h, ← e5]
    pointwise
    exact dif_neg h

theorem ref_dot (b : Fin 8) (row : Fin 4608) (e : Fin 32) (f : Fin 256) :
    val_main_v23 (F := Ideal) xs wg (ix4 b row e f) = ∑ d, entryOf (fun k => xs (ix3 b row k)) d * wg (ix4 0 e d f) := by
  have e1 : val_main_v23 (F := Ideal) xs wg (ix4 b row e f) = ∑ d : Fin 1024, val_main_v6 (F := Ideal) xs (ix3 b row d) * wg (ix4 0 e d f) := by
    unfold val_main_v23
    generalize val_main_v6 (F := Ideal) xs = y
    pointwise [val_main_v22, val_main_v21, val_main_v20]
  rw [e1]
  exact Finset.sum_congr rfl fun d _ => by rw [ref_entry]

theorem ref_dot_up (b : Fin 8) (row : Fin 4608) (e : Fin 32) (f : Fin 256) :
    val_main_v27 (F := Ideal) xs wu (ix4 b row e f) = ∑ d, entryOf (fun k => xs (ix3 b row k)) d * wu (ix4 0 e d f) :=
  ref_dot xs wu b row e f

theorem ref_gated (b : Fin 8) (row : Fin 4608) (e : Fin 32) (f : Fin 256) :
    val_main_v29 (F := Ideal) xs wg wu (ix4 b row e f)
      = gated (∑ d, entryOf (fun k => xs (ix3 b row k)) d * wg (ix4 0 e d f)) (∑ d, entryOf (fun k => xs (ix3 b row k)) d * wu (ix4 0 e d f)) := by
  rw [← ref_dot, ← ref_dot_up]
  unfold gated Ideal.logistic
  pointwise [val_main_v29, val_main_v28, val_main_call0_v5, val_main_call0_v4, val_main_call0_cst_0, val_main_call0_v3, val_main_call0_v2, val_main_call0_cst, val_main_call0_v1, val_main_call0_v0]

theorem ref_weight (b : Fin 8) (row : Fin 4608) (e : Fin 32) (f : Fin 256) :
    val_main_v31 (F := Ideal) cnt off (ix4 b row e f)
      = (((IntOp.andi (IntOp.cmpi .sge (BitVec.ofNat 32 row.val) (off (ix2 b e))) (IntOp.cmpi .slt (BitVec.ofNat 32 row.val) (IntOp.addi (off (ix2 b e)) (cnt (ix2 b e))))).toNat : ℕ) : EReal) := by
  pointwise [val_main_v31, val_main_v30, val_main_v19, val_main_v18, val_main_v17, val_main_v16, val_main_v15, val_main_v14, val_main_v13, val_main_v12, val_main_v11, val_main_v10, val_main_v9, val_main_v8, val_main_v7]
  rfl

theorem ref_sum (y : Vec Ideal S8x4608x32x256 .f32) (b : Fin 8) (row : Fin 4608) (j : Fin 1024) :
    Host.dotGeneral (F := Ideal) (φ₁ := .f32) (φ₂ := .f32) dot_S8x4608x32x256_S32x256x1024_S8x4608x1024_23_01_01_2_n_n none y (val_main_v35 (F := Ideal) wd) (ix3 b row j)
      = ∑ e : Fin 32, ∑ f : Fin 256, y (ix4 b row e f) * wd (ix4 0 e f j) := by
  pointwise [val_main_v35, val_main_v34, val_main_v33]

/-- Words below half the range compare as numbers. -/
theorem toInt_small (w : BitVec 32) (h : w.toNat < 2147483648) : w.toInt = w.toNat := BitVec.toInt_eq_toNat_of_lt (by omega)

theorem in_segment {n v : BitVec 32} (h : Segment n v) (row : Fin 4608) :
    (IntOp.andi (IntOp.cmpi .sge (BitVec.ofNat 32 row.val) v) (IntOp.cmpi .slt (BitVec.ofNat 32 row.val) (IntOp.addi v n)))
      = if v.toNat ≤ row.val ∧ row.val < v.toNat + n.toNat then 1#1 else 0#1 := by
  have hf := h.fits
  have hr : (BitVec.ofNat 32 row.val).toNat = row.val := by simp; omega
  have hs : (v + n).toNat = v.toNat + n.toNat := by rw [BitVec.toNat_add]; omega
  have e1 : IntOp.cmpi .sge (BitVec.ofNat 32 row.val) v = if v.toNat ≤ row.val then 1#1 else 0#1 := by
    have : (v.sle (BitVec.ofNat 32 row.val)) = decide (v.toNat ≤ row.val) := by
      rw [BitVec.sle, toInt_small v (by omega), toInt_small _ (by omega), hr]; simp
    simp only [IntOp.cmpi, this]
    by_cases h1 : v.toNat ≤ row.val <;> simp [h1]
  have e2 : IntOp.cmpi .slt (BitVec.ofNat 32 row.val) (IntOp.addi v n) = if row.val < v.toNat + n.toNat then 1#1 else 0#1 := by
    have : ((BitVec.ofNat 32 row.val).slt (v + n)) = decide (row.val < v.toNat + n.toNat) := by
      rw [BitVec.slt, toInt_small (v + n) (by omega), toInt_small _ (by omega), hr, hs]; simp; omega
    simp only [IntOp.cmpi, IntOp.addi, this]
    by_cases h1 : row.val < v.toNat + n.toNat <;> simp [h1]
  rw [e1, e2]
  by_cases h1 : v.toNat ≤ row.val <;> by_cases h2 : row.val < v.toNat + n.toNat <;> simp [h1, h2, IntOp.andi]

/-- The reference's entry of a row that belongs to expert `e`. -/
theorem ref_at (hT : Routing cnt off) (b : Fin 8) (e : Fin 32) (row : Fin 4608) (h1 : (off (ix2 b e)).toNat ≤ row.val)
    (h2 : row.val < (off (ix2 b e)).toNat + (cnt (ix2 b e)).toNat) (j : Fin 1024) :
    val_main_v36 (F := Ideal) cnt off xs wg wu wd (ix3 b row j) = outAt xs wg wu wd b e row j := by
  unfold val_main_v36
  rw [ref_sum]
  have hw : ∀ (e' : Fin 32) (f : Fin 256), val_main_v31 (F := Ideal) cnt off (ix4 b row e' f) = if e' = e then 1 else 0 := fun e' f => by
    rw [ref_weight, in_segment (hT.segment b e')]
    by_cases he : e' = e
    · subst he
      rw [if_pos ⟨h1, h2⟩, if_pos rfl]
      simp
    · rw [if_neg ?_, if_neg he]
      · simp
      · rintro ⟨h3, h4⟩
        rcases Nat.lt_or_gt_of_ne (fun h => he (Fin.ext h)) with hl | hl
        · have := hT.ordered b e' e hl; omega
        · have := hT.ordered b e e' hl; omega
  have ht : ∀ (e' : Fin 32) (f : Fin 256), val_main_v32 (F := Ideal) cnt off xs wg wu (ix4 b row e' f) * wd (ix4 0 e' f j)
      = if e' = e then val_main_v29 (F := Ideal) xs wg wu (ix4 b row e' f) * wd (ix4 0 e' f j) else 0 := fun e' f => by
    have : val_main_v32 (F := Ideal) cnt off xs wg wu (ix4 b row e' f)
        = val_main_v29 (F := Ideal) xs wg wu (ix4 b row e' f) * val_main_v31 (F := Ideal) cnt off (ix4 b row e' f) := val_main_v32_apply _ _ _ _ _ _
    rw [this, hw]
    split
    · rw [mul_one]
    · rw [mul_zero, zero_mul]
  simp only [ht]
  rw [Finset.sum_eq_single e (fun e' _ he => by simp [he]) (fun h => absurd (Finset.mem_univ e) h)]
  simp only [if_true]
  unfold outAt ffn
  exact Finset.sum_congr rfl fun f _ => by rw [ref_gated]

end Cert.Kernel2.Experts

end
-- ==== Proof.ExpPre.lean ====
module

public import proofs.«01_k».proof.Proof.ExpRef
public import proofs.«01_k».proof.Proof.Gen.Pre_segment_tables
public import proofs.«01_k».proof.Proof.Gen.On_routed_rows
public import Idealize.ShloMosaic.Lib.ReduceAll
public import Idealize.ShloMosaic.Lib.Pointwise

@[expose] public section

set_option maxRecDepth 16384

/-! What the precondition says of the two tables (the segments fit and follow one another in the experts' order), and what
the mask says of a row (some expert's segment holds it). -/

noncomputable section

namespace Cert.Kernel2.Experts

open Idealize.ShloMosaic

theorem of_cmpi {p : Bool} (h : BitVec.ofBool p = 1#1) : p = true := by
  cases p
  · exact absurd h (by decide)
  · rfl

theorem sle_int {a b : BitVec 32} (h : IntOp.cmpi .sle a b = 1#1) : a.toInt ≤ b.toInt := by
  have := of_cmpi (p := a.sle b) h
  simpa [BitVec.sle] using this

theorem sge_int {a b : BitVec 32} (h : IntOp.cmpi .sge a b = 1#1) : b.toInt ≤ a.toInt := by
  have := of_cmpi (p := b.sle a) h
  simpa [BitVec.sle] using this

/-- A word between two bounds, the lower one zero. -/
theorem word_le {a : BitVec 32} (k : ℕ) (hk : k < 2147483648) (h0 : IntOp.cmpi .sge a 0#32 = 1#1)
    (h1 : IntOp.cmpi .sle a (BitVec.ofNat 32 k) = 1#1) : a.toNat ≤ k := by
  have e0 := sge_int h0
  have e1 := sle_int h1
  have ek : (BitVec.ofNat 32 k).toInt = k := by
    rw [toInt_small _ (by simp; omega)]; simp; omega
  rw [ek] at e1
  rw [show (0#32).toInt = 0 from rfl] at e0
  rw [BitVec.toInt_eq_toNat_cond] at e0 e1
  split at e0 <;> omega

theorem sle_nat {a b : BitVec 32} (ha : a.toNat < 2147483648) (hb : b.toNat < 2147483648) (h : IntOp.cmpi .sle a b = 1#1) :
    a.toNat ≤ b.toNat := by
  have e := sle_int h
  rw [toInt_small a ha, toInt_small b hb] at e
  omega

theorem dvd_word {a : BitVec 32} (h : IntOp.cmpi .eq (IntOp.andi a 7#32) 0#32 = 1#1) : 8 ∣ a.toNat := by
  have e : (a &&& 7#32) = 0#32 := by
    have := of_cmpi (p := IntOp.andi a 7#32 == 0#32) h
    simpa [IntOp.andi] using this
  have e2 := congrArg BitVec.toNat e
  rw [BitVec.toNat_and] at e2
  have e3 : a.toNat &&& 7 = a.toNat % 8 := Nat.and_two_pow_sub_one_eq_mod a.toNat 3
  exact Nat.dvd_of_mod_eq_zero (e3.symm.trans e2)

instance : Subsingleton Cert.Pre_segment_tables.S_.Idx := ⟨fun _ _ => funext fun a => a.elim0⟩

open Cert.Pre_segment_tables in
theorem routing_of_pre {F : FTy → Type} [FloatOps F] [Cert.Pre_segment_tables.Facts] (cnt off : IVec S8x32 32) (xs : IVec S8x4608x512 32)
    (wg wu : FVec F S2x32x1024x256 .bf16) (wd : FVec F S2x32x256x1024 .bf16)
    (h : Cert.Pre_segment_tables.fn (F := F) cnt off xs wg wu wd = fun _ => 1#1) : Routing cnt off := by
  have h0 := congrFun h (fun a => a.elim0)
  obtain ⟨h1, hO⟩ := IntOp.andi_eq_one.1 h0
  obtain ⟨h2, hF⟩ := IntOp.andi_eq_one.1 h1
  obtain ⟨h3, hD⟩ := IntOp.andi_eq_one.1 h2
  obtain ⟨hC, hV⟩ := IntOp.andi_eq_one.1 h3
  have bC : ∀ b e, (cnt (ix2 b e)).toNat ≤ 4096 := fun b e => by
    obtain ⟨a, a'⟩ := IntOp.andi_eq_one.1 (Host.reduce_andi_all _ _ _ _ _ hC (ix2 b e))
    exact word_le 4096 (by decide) a a'
  have bV : ∀ b e, (off (ix2 b e)).toNat ≤ 4608 := fun b e => by
    obtain ⟨a, a'⟩ := IntOp.andi_eq_one.1 (Host.reduce_andi_all _ _ _ _ _ hV (ix2 b e))
    exact word_le 4608 (by decide) a a'
  have add : ∀ b e, (IntOp.addi (off (ix2 b e)) (cnt (ix2 b e))).toNat = (off (ix2 b e)).toNat + (cnt (ix2 b e)).toNat := fun b e => by
    have := bC b e; have := bV b e
    show (off (ix2 b e) + cnt (ix2 b e)).toNat = _
    rw [BitVec.toNat_add]; omega
  have next : ∀ (b : Fin 8) (e : Fin 31), (off (ix2 b ⟨e.val, by omega⟩)).toNat + (cnt (ix2 b ⟨e.val, by omega⟩)).toNat
      ≤ (off (ix2 b ⟨e.val + 1, by omega⟩)).toNat := fun b e => by
    have := Host.reduce_andi_all _ _ _ _ _ hO (ix2 b e)
    have e1 : extractStridedSlice S8x31 ![0, 0] (addi off cnt) Facts.slices_S8x32_S8x31_0_0 (ix2 b e)
        = IntOp.addi (off (ix2 b ⟨e.val, by omega⟩)) (cnt (ix2 b ⟨e.val, by omega⟩)) := by pointwise
    have e2 : extractStridedSlice S8x31 ![0, 1] off Facts.slices_S8x32_S8x31_0_1 (ix2 b e)
        = off (ix2 b ⟨e.val + 1, by omega⟩) := by
      pointwise
      exact congrArg (fun x => off (ix2 b x)) (Fin.ext (Nat.add_comm 1 e.val))
    have e3 := congrArg₂ (IntOp.cmpi .sle) e1 e2
    rw [← add]
    have := bC b ⟨e.val, by omega⟩; have := bV b ⟨e.val, by omega⟩; have := bV b ⟨e.val + 1, by omega⟩; have := add b ⟨e.val, by omega⟩
    exact sle_nat (by omega) (by omega) (e3.symm.trans ‹_›)
  constructor
  · intro b e
    refine ⟨bC b e, dvd_word (Host.reduce_andi_all _ _ _ _ _ hD (ix2 b e)), ?_⟩
    have e1 : IntOp.cmpi .sle (IntOp.addi (IntOp.addi (off (ix2 b e)) (cnt (ix2 b e))) 255#32) 4608#32 = 1#1 :=
      Host.reduce_andi_all _ _ _ _ _ hF (ix2 b e)
    have := bC b e; have := bV b e; have ha := add b e
    have e2 : (IntOp.addi (IntOp.addi (off (ix2 b e)) (cnt (ix2 b e))) 255#32).toNat = (off (ix2 b e)).toNat + (cnt (ix2 b e)).toNat + 255 := by
      show (IntOp.addi (off (ix2 b e)) (cnt (ix2 b e)) + 255#32).toNat = _
      rw [BitVec.toNat_add, ha, show (255#32).toNat = 255 from rfl]; omega
    have := sle_nat (by omega) (by decide) e1
    rw [e2] at this
    exact this
  · intro b e e' hlt
    obtain ⟨n, hn⟩ := e
    obtain ⟨n', hn'⟩ := e'
    obtain ⟨d, hd⟩ : ∃ d, n' = n + 1 + d := ⟨n' - (n + 1), by simp at hlt; omega⟩
    subst hd
    induction d with
    | zero => exact next b ⟨n, by omega⟩
    | succ d ih =>
      have h1 := ih (by omega) (by show n < n + 1 + d; omega)
      have h2 := next b ⟨n + 1 + d, by omega⟩
      exact h1.trans ((Nat.le_add_right _ _).trans h2)

theorem foldl_ori_one {ι : Type} (f : ι → BitVec 1) :
    ∀ (l : List ι) (init : BitVec 1), l.foldl (fun r n => IntOp.ori r (f n)) init = 1#1 → init = 1#1 ∨ ∃ n ∈ l, f n = 1#1
  | [], _, h => .inl h
  | a :: l, init, h => by
    rcases foldl_ori_one f l _ h with h1 | ⟨n, hn, hf⟩
    · have : ∀ x y : BitVec 1, IntOp.ori x y = 1#1 → x = 1#1 ∨ y = 1#1 := by decide
      rcases this _ _ h1 with h2 | h2
      · exact .inl h2
      · exact .inr ⟨a, List.mem_cons_self .., h2⟩
    · exact .inr ⟨n, List.mem_cons_of_mem _ hn, hf⟩

open Cert.On_routed_rows in
theorem routed_of_mask {F : FTy → Type} [FloatOps F] [Cert.On_routed_rows.Facts] (cnt off : IVec S8x32 32) (xs : IVec S8x4608x512 32)
    (wg wu : FVec F S2x32x1024x256 .bf16) (wd : FVec F S2x32x256x1024 .bf16) (hT : Routing cnt off) (b : Fin 8) (row : Fin 4608) (j : Fin 1024)
    (h : Cert.On_routed_rows.fn (F := F) cnt off xs wg wu wd (ix3 b row j) = 1#1) :
    ∃ e : Fin 32, (off (ix2 b e)).toNat ≤ row.val ∧ row.val < (off (ix2 b e)).toNat + (cnt (ix2 b e)).toNat := by
  unfold Cert.On_routed_rows.fn at h
  dsimp only at h
  have hb : ∀ x : IVec S8x4608 1, broadcastInDim S8x4608x1024 ![0, 1, 2] Facts.bcast_S8x4608x1_S8x4608x1024_0_1_2
      (broadcastInDim S8x4608x1 ![0, 1] Facts.bcast_S8x4608_S8x4608x1_0_1 x) (ix3 b row j) = x (ix2 b row) := fun x => by pointwise
  rw [hb, Host.reduce_eq_foldl] at h
  rcases foldl_ori_one _ _ _ h with h0 | ⟨i, hi, hf⟩
  · exact absurd h0 (by simp [constantI])
  · obtain ⟨hm, hd⟩ := List.mem_filter.1 hi
    have hd := of_decide_eq_true hd
    idx_vars i
    have h0 : i0 = b := congrFun hd 0
    have h1 : i1 = row := congrFun hd 1
    subst h0 h1
    clear h hi hm hd hb
    have hx : ∀ w : IVec S8x32 32, broadcastInDim S8x4608x32 ![0, 1, 2] Facts.bcast_S8x1x32_S8x4608x32_0_1_2
        (broadcastInDim S8x1x32 ![0, 2] Facts.bcast_S8x32_S8x1x32_0_2 w) (ix3 i0 i1 i2) = w (ix2 i0 i2) := fun w => by pointwise
    have hr : broadcastInDim S8x4608x32 ![0, 1, 2] Facts.bcast_S1x4608x1_S8x4608x32_0_1_2
        (broadcastInDim S1x4608x1 ![1] Facts.bcast_S4608_S1x4608x1_1 (iotaInDim S4608 32 0)) (ix3 i0 i1 i2)
        = BitVec.ofNat 32 i1.val := by pointwise
    have hw : IntOp.andi (IntOp.cmpi .sge (BitVec.ofNat 32 i1.val) (off (ix2 i0 i2)))
        (IntOp.cmpi .slt (BitVec.ofNat 32 i1.val) (IntOp.addi (off (ix2 i0 i2)) (cnt (ix2 i0 i2)))) = 1#1 := by
      have hf : IntOp.andi (IntOp.cmpi .sge (broadcastInDim S8x4608x32 ![0, 1, 2] Facts.bcast_S1x4608x1_S8x4608x32_0_1_2
          (broadcastInDim S1x4608x1 ![1] Facts.bcast_S4608_S1x4608x1_1 (iotaInDim S4608 32 0)) (ix3 i0 i1 i2)) (broadcastInDim S8x4608x32 ![0, 1, 2] Facts.bcast_S8x1x32_S8x4608x32_0_1_2
        (broadcastInDim S8x1x32 ![0, 2] Facts.bcast_S8x32_S8x1x32_0_2 off) (ix3 i0 i1 i2))) (IntOp.cmpi .slt (broadcastInDim S8x4608x32 ![0, 1, 2] Facts.bcast_S1x4608x1_S8x4608x32_0_1_2
          (broadcastInDim S1x4608x1 ![1] Facts.bcast_S4608_S1x4608x1_1 (iotaInDim S4608 32 0)) (ix3 i0 i1 i2)) (broadcastInDim S8x4608x32 ![0, 1, 2] Facts.bcast_S8x1x32_S8x4608x32_0_1_2
        (broadcastInDim S8x1x32 ![0, 2] Facts.bcast_S8x32_S8x1x32_0_2 (addi off cnt)) (ix3 i0 i1 i2))) = 1#1 := hf
      rw [hr, hx, hx] at hf
      exact hf
    rw [in_segment (hT.segment i0 i2)] at hw
    by_contra hne
    rw [if_neg fun hh => hne ⟨i2, hh⟩] at hw
    exact absurd hw (by decide)

end Cert.Kernel2.Experts

end
-- ==== Proof.Experts.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.ExpPre
public import Idealize.ShloMosaic.Adequacy

@[expose] public section

/-! The claims of the experts' layer: the frames, and the kernel's rows equal to the reference's at every routed row. -/

noncomputable section

namespace Cert.Kernel2.Experts

open Idealize.ShloMosaic Idealize.ShloMosaic.TcCoe Idealize.SL.Sem

/-- The two printings of the kernel define the same functions … -/
theorem defs0_eq : (Cert.Kernel2Ideal.defs₀ (F := Ideal)) = (Cert.Kernel2.defs₀ (F := Ideal)) := by
  unfold Cert.Kernel2Ideal.defs₀ Cert.Kernel2.defs₀
  refine congrArg Defs.onTc (funext fun ℓ => funext fun x => ?_)
  obtain ⟨ℓ, hℓ⟩ := ℓ
  cases ℓ with
  | zero => rfl
  | succ n => exact absurd hℓ (by omega)

theorem defs_eq : (Cert.Kernel2Ideal.defs (F := Ideal)) = (Cert.Kernel2.defs (F := Ideal)) :=
  congrArg (Pipeline.defs (Cert.Kernel2.pcfgs (F := Ideal))) defs0_eq

/-- … so what holds after the one holds after the other. -/
theorem run_eq (m : (ℓ : Loc Cert.Kernel2.nD Cert.Kernel2.τ Cert.Kernel2.sig) → Buf (Elt Ideal) ℓ) (g : Dev Cert.Kernel2.nD → PrngReg)
    (Q : PUnit × MemSt Cert.Kernel2.nD Cert.Kernel2.τ Cert.Kernel2.sig (Elt Ideal) → Prop)
    (h : θ_run (Cert.Kernel2.defs (F := Ideal)) (onTc (τ := Cert.Kernel2.τ) (Cert.Kernel2.main (F := Ideal))) ⟨m, fun _ => 0, g⟩ Q) :
    θ_run (Cert.Kernel2Ideal.defs (F := Ideal)) (onTc (τ := Cert.Kernel2Ideal.τ) (Cert.Kernel2Ideal.main (F := Ideal))) ⟨m, fun _ => 0, g⟩ Q := by
  rw [defs_eq]; exact h

theorem frame_kernel : Cert.quiescent_Kernel2 (hKernel2 := Cert.Kernel2.Gen.facts) (hPre_segment_tables := Cert.Pre_segment_tables.Gen.facts) :=
  fun m ρ hp => run_frame m ρ (segments m fun c => @routing_of_pre _ _ Cert.Pre_segment_tables.Gen.facts _ _ _ _ _ _ (hp c))

theorem frame_ideal : Cert.quiescent_Kernel2Ideal (hKernel2Ideal := Cert.Kernel2Ideal.Gen.facts) (hPre_segment_tables := Cert.Pre_segment_tables.Gen.facts) :=
  fun m ρ hp => run_eq m ρ _ (run_frame (F := Ideal) m ρ (segments m fun c => @routing_of_pre _ _ Cert.Pre_segment_tables.Gen.facts _ _ _ _ _ _ (hp c)))

theorem frame_reference : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run m ρ)

theorem algebraic : Cert.algebraic_Kernel2Ideal_Reference2Ideal_on_routed_rows (hKernel2Ideal := Cert.Kernel2Ideal.Gen.facts)
    (hReference2Ideal := Cert.Reference2Ideal.Gen.facts) (hPre_segment_tables := Cert.Pre_segment_tables.Gen.facts)
    (hOn_routed_rows := Cert.On_routed_rows.Gen.facts) := by
  intro m ρ m' ρ' hpre hagree
  have hT : ∀ c, Routing (Cnt (F := Ideal) m c) (Off (F := Ideal) m c) := fun c =>
    @routing_of_pre _ _ Cert.Pre_segment_tables.Gen.facts _ _ _ _ _ _ (hpre c)
  refine ⟨fun c => Cert.Reference2Ideal.Read.val_main_v36 (F := Ideal) (Cnt (F := Ideal) m c) (Off (F := Ideal) m c) (Xs (F := Ideal) m c)
    (Wg (F := Ideal) m c) (Wu (F := Ideal) m c) (Wd (F := Ideal) m c), ?_, ?_⟩
  · refine run_eq m ρ _ ((θ_run _ _ _).mono (fun r h c => ⟨fun i hi => ?_, (h.1 c).2⟩) (run_rows m hT ρ))
    revert hi
    idx_vars i
    intro hi
    obtain ⟨e, h1, h2⟩ := @routed_of_mask _ _ Cert.On_routed_rows.Gen.facts _ _ _ _ _ _ (hT c) _ _ _ hi
    exact ((h.1 c).1 i0 e i1 h1 h2 i2).trans (ref_at _ _ _ _ _ _ (hT c) i0 e i1 h1 h2 i2).symm
  · refine (θ_run Cert.Reference2Ideal.defs _ _).mono (fun r h c => ⟨fun i _ => congrFun ((h c).1.trans ?_) i, (h c).2⟩) (Cert.Reference2Ideal.Value.run m' ρ')
    rw [Cert.Reference2Ideal.Read.val_main_v36_eq, (hagree c).1, (hagree c).2.1, (hagree c).2.2.1, (hagree c).2.2.2.1, (hagree c).2.2.2.2.1,
      (hagree c).2.2.2.2.2]

end Cert.Kernel2.Experts

end
-- ==== Proof.MergeBlock.lean ====
/- The merge of the three branches: one row's entries, and a block of rows. -/
module

public import proofs.«01_k».proof.Proof.Gen.Kernel3Ideal.Value
public import Idealize.ShloMosaic.Lib.Pointwise
public import Idealize.ShloMosaic.PureOps.Ideal.Laws

@[expose] public section

set_option maxRecDepth 16384

noncomputable section

namespace Cert.Merge

open Idealize.ShloMosaic Idealize.ShloMosaic.TcCoe
open Cert.Kernel3Ideal Cert.Kernel3Ideal.Gen

/-- Entry `k` of the row `x` over the root of its mean square, scaled by `g`. -/
def normed (x g : Fin 1024 → EReal) (k : Fin 1024) : EReal :=
  x k * Ideal.rsqrt (Ideal.div (∑ a, x a * x a) (Ideal.ofBits .f32 0x44800000#32) + Ideal.ofBits .f32 0x358637BD#32) * g k

/-- A branch's projected entry behind its gate. -/
def branch (h w : Fin 1024 → EReal) (o p : Fin 512 → EReal) : EReal :=
  Ideal.logistic (∑ a, h a * w a) * ∑ e, o e * p e

/-- The three gated branches at entry `d`. -/
def mixed (h : Fin 1024 → EReal) (w : Fin 1024 → Fin 3072 → EReal) (oa ob oc : Fin 512 → EReal)
    (pa pb pc : Fin 512 → Fin 1024 → EReal) (d : Fin 1024) : EReal :=
  branch h (fun a => w a ⟨d.val, by omega⟩) oa (fun e => pa e d)
    + branch h (fun a => w a ⟨1024 + d.val, by omega⟩) ob (fun e => pb e d)
    + branch h (fun a => w a ⟨2048 + d.val, by omega⟩) oc (fun e => pc e d)

/-- Entry `j` of the row after the merge. -/
def merged (x g : Fin 1024 → EReal) (w : Fin 1024 → Fin 3072 → EReal) (oa ob oc : Fin 512 → EReal)
    (pa pb pc : Fin 512 → Fin 1024 → EReal) (wo : Fin 1024 → Fin 1024 → EReal) (j : Fin 1024) : EReal :=
  x j + ∑ d, mixed (normed x g) w oa ob oc pa pb pc d * wo d j

theorem norm_at (x : Vec Ideal S1024x1024 .f32) (g : Vec Ideal S1x1024 .f32) (r k : Fin 1024) :
    k0_pay3 (F := Ideal) x g (ix2 r k) = normed (fun a => x (ix2 r a)) (fun a => g (ix2 0 a)) k := by
  unfold_payloads
  pointwise
  rfl

theorem first_at (x : Vec Ideal S1024x1024 .f32) (g : Vec Ideal S1x1024 .f32) (w : Vec Ideal S1024x1024 .bf16)
    (o : Vec Ideal S1024x512 .bf16) (p : Vec Ideal S512x1024 .bf16) (r j : Fin 1024) :
    k0_pay4 (F := Ideal) x g w o p (ix2 r j)
      = branch (normed (fun a => x (ix2 r a)) (fun a => g (ix2 0 a))) (fun a => w (ix2 a j)) (fun e => o (ix2 r e)) (fun e => p (ix2 e j)) := by
  have e := norm_at x g r
  unfold k0_pay4
  generalize k0_pay3 (F := Ideal) x g = h at e ⊢
  pointwise
  unfold branch
  simp only [e]

theorem gate_at (x : Vec Ideal S1024x1024 .f32) (g : Vec Ideal S1x1024 .f32) (w : Vec Ideal S1024x1024 .bf16) (r j : Fin 1024) :
    k0_pay5 (F := Ideal) x g w (ix2 r j)
      = Ideal.logistic (∑ a, normed (fun a => x (ix2 r a)) (fun a => g (ix2 0 a)) a * w (ix2 a j)) := by
  have e := norm_at x g r
  unfold k0_pay5
  generalize k0_pay3 (F := Ideal) x g = h at e ⊢
  pointwise
  simp only [e]

theorem last_at (x : Vec Ideal S1024x1024 .f32) (h w : Vec Ideal S1024x1024 .bf16) (m1 g2 : Vec Ideal S1024x1024 .f32)
    (o2 o3 : Vec Ideal S1024x512 .bf16) (p2 p3 : Vec Ideal S512x1024 .bf16) (wo : Vec Ideal S1024x1024 .bf16) (r j : Fin 1024) :
    k0_pay1 (F := Ideal) x h m1 g2 o2 p2 w o3 p3 wo (ix2 r j)
      = x (ix2 r j) + ∑ d, (m1 (ix2 r d) + g2 (ix2 r d) * (∑ e, o2 (ix2 r e) * p2 (ix2 e d))
          + branch (fun a => h (ix2 r a)) (fun a => w (ix2 a d)) (fun e => o3 (ix2 r e)) (fun e => p3 (ix2 e d))) * wo (ix2 d j) := by
  unfold k0_pay1
  pointwise
  rfl

theorem pass_x (x : Vec Ideal S1024x1024 .f32) : k0_pay2 (F := Ideal) x = x := by
  funext i
  idx_vars i
  unfold k0_pay2
  pointwise

theorem pass_o (x : Vec Ideal S1024x512 .bf16) : k0_pay6 (F := Ideal) x = x := by
  funext i
  idx_vars i
  unfold k0_pay6
  pointwise

/-- What the body stores, entry by entry. -/
theorem body_at (x : Vec Ideal S1024x1024 .f32) (g : Vec Ideal S1x1024 .f32) (wa wb wc : Vec Ideal S1024x1024 .bf16)
    (oa ob oc : Vec Ideal S1024x512 .bf16) (pa pb pc : Vec Ideal S512x1024 .bf16) (wo : Vec Ideal S1024x1024 .bf16)
    (w : Fin 1024 → Fin 3072 → EReal) (ha : ∀ a d, wa (ix2 a d) = w a ⟨d.val, by omega⟩)
    (hb : ∀ a d, wb (ix2 a d) = w a ⟨1024 + d.val, by omega⟩) (hc : ∀ a d, wc (ix2 a d) = w a ⟨2048 + d.val, by omega⟩) (r j : Fin 1024) :
    k0_pay1 (F := Ideal) (k0_pay2 x) (k0_pay3 x g) (k0_pay4 x g wa oa pa) (k0_pay5 x g wb) (k0_pay6 ob) pb wc oc pc wo (ix2 r j)
      = merged (fun a => x (ix2 r a)) (fun a => g (ix2 0 a)) w (fun e => oa (ix2 r e)) (fun e => ob (ix2 r e)) (fun e => oc (ix2 r e))
          (fun e d => pa (ix2 e d)) (fun e d => pb (ix2 e d)) (fun e d => pc (ix2 e d)) (fun d j => wo (ix2 d j)) j := by
  rw [pass_x, pass_o, last_at]
  simp only [first_at, gate_at, norm_at, ha, hb, hc]
  rfl

variable (x0 : Vec Ideal S1024x1024 .f32) (x1 : Vec Ideal S1x1024 .f32) (x2 : Vec Ideal S1024x3072 .bf16)
  (x3 x4 x5 : Vec Ideal S1024x512 .bf16) (x6 x7 x8 : Vec Ideal S512x1024 .bf16) (x9 : Vec Ideal S1024x1024 .bf16)

/-- A block of the result from the blocks of the arguments. -/
theorem block_at (r j : Fin 1024) :
    out0_10 (F := Ideal) x0 x1 x2 x3 x4 x5 x6 x7 x8 x9 (ix2 r j)
      = merged (fun a => x0 (ix2 r a)) (fun a => x1 (ix2 0 a)) (fun a b => x2 (ix2 a b)) (fun e => x3 (ix2 r e)) (fun e => x4 (ix2 r e))
          (fun e => x5 (ix2 r e)) (fun e d => x6 (ix2 e d)) (fun e d => x7 (ix2 e d)) (fun e d => x8 (ix2 e d)) (fun d j => x9 (ix2 d j)) j := by
  have l0 : View.ld x0 r0_0 = x0 := by
    funext i; idx_vars i; exact congrArg x0 (funext fun a => Fin.ext (by match a with | 0 => show 0 + 1 * i0.val = i0.val; omega | 1 => show 0 + 1 * i1.val = i1.val; omega))
  have l1 : View.ld x1 r0_1 = x1 := by
    funext i; idx_vars i; exact congrArg x1 (funext fun a => Fin.ext (by match a with | 0 => show 0 + 1 * i0.val = i0.val; omega | 1 => show 0 + 1 * i1.val = i1.val; omega))
  have l3 : ∀ y : Vec Ideal S1024x512 .bf16, View.ld y r0_3 = y := by
    intro y; funext i; idx_vars i; exact congrArg y (funext fun a => Fin.ext (by match a with | 0 => show 0 + 1 * i0.val = i0.val; omega | 1 => show 0 + 1 * i1.val = i1.val; omega))
  have l4 : ∀ y : Vec Ideal S512x1024 .bf16, View.ld y r0_4 = y := by
    intro y; funext i; idx_vars i; exact congrArg y (funext fun a => Fin.ext (by match a with | 0 => show 0 + 1 * i0.val = i0.val; omega | 1 => show 0 + 1 * i1.val = i1.val; omega))
  have l9 : View.ld x9 r0_0 = x9 := by
    funext i; idx_vars i; exact congrArg x9 (funext fun a => Fin.ext (by match a with | 0 => show 0 + 1 * i0.val = i0.val; omega | 1 => show 0 + 1 * i1.val = i1.val; omega))
  unfold out0_10
  rw [l0, l1, l3, l3, l3, l4, l4, l4, l9]
  refine (congrFun (View.canon_unit_zero (funext fun a => by match a with | 0 => rfl | 1 => rfl) _ _) _).trans ?_
  refine body_at x0 x1 _ _ _ x3 x4 x5 x6 x7 x8 x9 (fun a b => x2 (ix2 a b)) (fun a d => ?_) (fun a d => ?_) (fun a d => ?_) r j
  · exact congrArg x2 (funext fun a' => Fin.ext (by match a' with | 0 => show 0 + 1 * a.val = a.val; omega | 1 => show 0 + 1 * d.val = d.val; omega))
  · exact congrArg x2 (funext fun a' => Fin.ext (by match a' with | 0 => show 0 + 1 * a.val = a.val; omega | 1 => show 1024 + 1 * d.val = 1024 + d.val; omega))
  · exact congrArg x2 (funext fun a' => Fin.ext (by match a' with | 0 => show 0 + 1 * a.val = a.val; omega | 1 => show 2048 + 1 * d.val = 2048 + d.val; omega))

end Cert.Merge
end
-- ==== Proof.MergeArray.lean ====
/- The merge: the prepared arrays, and the result array block by block. -/
module

public import proofs.«01_k».proof.Proof.MergeBlock

@[expose] public section

set_option maxRecDepth 16384

noncomputable section

namespace Cert.Merge

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ) (c : Dev nD)

abbrev Xm : S8x2048x1024.Idx → EReal := m ((c : Thread nD τ).loc main_arg0)
abbrev Gm : S2x1024.Idx → EReal := m ((c : Thread nD τ).loc main_arg1)
abbrev Wm : S2x1024x6408.Idx → EReal := m ((c : Thread nD τ).loc main_arg2)
abbrev OAm : S8x2048x512.Idx → EReal := m ((c : Thread nD τ).loc main_arg3)
abbrev OBm : S8x2048x512.Idx → EReal := m ((c : Thread nD τ).loc main_arg4)
abbrev OCm : S8x2048x512.Idx → EReal := m ((c : Thread nD τ).loc main_arg5)
abbrev PAm : S2x512x1024.Idx → EReal := m ((c : Thread nD τ).loc main_arg6)
abbrev PBm : S2x512x1024.Idx → EReal := m ((c : Thread nD τ).loc main_arg7)
abbrev PCm : S2x512x1024.Idx → EReal := m ((c : Thread nD τ).loc main_arg8)
abbrev WOm : S2x1024x1024.Idx → EReal := m ((c : Thread nD τ).loc main_arg9)

/-! ## The prepared arrays -/

theorem flat_1024 (X : Vec Ideal S8x2048x1024 .f32) (row : Fin 16384) (a : Fin 1024) :
    shapeCast S16384x1024 X shapeCasts_S8x2048x1024_S16384x1024 (ix2 row a) = X (ix3 ⟨row.val / 2048, by omega⟩ ⟨row.val % 2048, by omega⟩ a) := by
  pointwise

theorem flat_512 (X : Vec Ideal S8x2048x512 .bf16) (row : Fin 16384) (a : Fin 512) :
    shapeCast S16384x512 X shapeCasts_S8x2048x512_S16384x512 (ix2 row a) = X (ix3 ⟨row.val / 2048, by omega⟩ ⟨row.val % 2048, by omega⟩ a) := by
  pointwise

theorem prep_x (row : Fin 16384) (a : Fin 1024) :
    V m c main_v0 (ix2 row a : S16384x1024.Idx) = Xm m c (ix3 ⟨row.val / 2048, by omega⟩ ⟨row.val % 2048, by omega⟩ a) := by
  have e : V m c main_v0 = shapeCast S16384x1024 (Xm m c) shapeCasts_S8x2048x1024_S16384x1024 := by
    show StableHlo.after hostOps0 (fun b => m (c, b)) (Proc.devRef .tc main_v0) = _
    simp only [hostOps0, cast_eq]
    after_results_simp <;> rfl
  exact (congrFun e _).trans (flat_1024 _ row a)

theorem prep_g (a : Fin 1024) : V m c main_v22 (ix2 0 a : S1x1024.Idx) = Gm m c (ix2 0 a) := by
  have e : V m c main_v22 = shapeCast S1x1024 (shapeCast S1024 (extractStridedSlice S1x1024 ![0, 0] (Gm m c) slices_S2x1024_S1x1024_0_0)
      shapeCasts_S1x1024_S1024) shapeCasts_S1024_S1x1024 := by
    show StableHlo.after hostOps0 (fun b => m (c, b)) (Proc.devRef .tc main_v22) = _
    simp only [hostOps0, cast_eq]
    after_results_simp <;> rfl
  refine (congrFun e _).trans ?_
  generalize Gm m c = X
  pointwise

theorem prep_w (a : Fin 1024) (b : Fin 3072) :
    V m c main_v4 (ix2 a b : S1024x3072.Idx) = Wm m c (ix3 0 a ⟨3336 + b.val, by omega⟩) := by
  have e : V m c main_v4 = truncf (F := Ideal) (φ := .f32) .bf16 (extractStridedSlice S1024x3072 ![0, 3336] (shapeCast S1024x6408
      (extractStridedSlice S1x1024x6408 ![0, 0, 0] (Wm m c) slices_S2x1024x6408_S1x1024x6408_0_0_0) shapeCasts_S1x1024x6408_S1024x6408)
      slices_S1024x6408_S1024x3072_0_3336) bitsLt_bf16_f32 := by
    show StableHlo.after hostOps0 (fun b => m (c, b)) (Proc.devRef .tc main_v4) = _
    simp only [hostOps0, cast_eq]
    after_results_simp <;> rfl
  refine (congrFun e _).trans ?_
  generalize Wm m c = X
  pointwise

theorem prep_oa (row : Fin 16384) (a : Fin 512) :
    V m c main_v7 (ix2 row a : S16384x512.Idx) = OAm m c (ix3 ⟨row.val / 2048, by omega⟩ ⟨row.val % 2048, by omega⟩ a) := by
  have e : V m c main_v7 = shapeCast S16384x512 (OAm m c) shapeCasts_S8x2048x512_S16384x512 := by
    show StableHlo.after hostOps0 (fun b => m (c, b)) (Proc.devRef .tc main_v7) = _
    simp only [hostOps0, cast_eq]
    after_results_simp <;> rfl
  exact (congrFun e _).trans (flat_512 _ row a)

theorem prep_ob (row : Fin 16384) (a : Fin 512) :
    V m c main_v8 (ix2 row a : S16384x512.Idx) = OBm m c (ix3 ⟨row.val / 2048, by omega⟩ ⟨row.val % 2048, by omega⟩ a) := by
  have e : V m c main_v8 = shapeCast S16384x512 (OBm m c) shapeCasts_S8x2048x512_S16384x512 := by
    show StableHlo.after hostOps0 (fun b => m (c, b)) (Proc.devRef .tc main_v8) = _
    simp only [hostOps0, cast_eq]
    after_results_simp <;> rfl
  exact (congrFun e _).trans (flat_512 _ row a)

theorem prep_oc (row : Fin 16384) (a : Fin 512) :
    V m c main_v9 (ix2 row a : S16384x512.Idx) = OCm m c (ix3 ⟨row.val / 2048, by omega⟩ ⟨row.val % 2048, by omega⟩ a) := by
  have e : V m c main_v9 = shapeCast S16384x512 (OCm m c) shapeCasts_S8x2048x512_S16384x512 := by
    show StableHlo.after hostOps0 (fun b => m (c, b)) (Proc.devRef .tc main_v9) = _
    simp only [hostOps0, cast_eq]
    after_results_simp <;> rfl
  exact (congrFun e _).trans (flat_512 _ row a)

theorem first_512 (X : Vec Ideal S2x512x1024 .f32) (e : Fin 512) (d : Fin 1024) :
    truncf (F := Ideal) (φ := .f32) .bf16 (shapeCast S512x1024 (extractStridedSlice S1x512x1024 ![0, 0, 0] X slices_S2x512x1024_S1x512x1024_0_0_0)
      shapeCasts_S1x512x1024_S512x1024) bitsLt_bf16_f32 (ix2 e d) = X (ix3 0 e d) := by
  pointwise

theorem prep_pa (e : Fin 512) (d : Fin 1024) : V m c main_v12 (ix2 e d : S512x1024.Idx) = PAm m c (ix3 0 e d) := by
  have h : V m c main_v12 = truncf (F := Ideal) (φ := .f32) .bf16 (shapeCast S512x1024 (extractStridedSlice S1x512x1024 ![0, 0, 0] (PAm m c)
      slices_S2x512x1024_S1x512x1024_0_0_0) shapeCasts_S1x512x1024_S512x1024) bitsLt_bf16_f32 := by
    show StableHlo.after hostOps0 (fun b => m (c, b)) (Proc.devRef .tc main_v12) = _
    simp only [hostOps0, cast_eq]
    after_results_simp <;> rfl
  exact (congrFun h _).trans (first_512 _ e d)

theorem prep_pb (e : Fin 512) (d : Fin 1024) : V m c main_v15 (ix2 e d : S512x1024.Idx) = PBm m c (ix3 0 e d) := by
  have h : V m c main_v15 = truncf (F := Ideal) (φ := .f32) .bf16 (shapeCast S512x1024 (extractStridedSlice S1x512x1024 ![0, 0, 0] (PBm m c)
      slices_S2x512x1024_S1x512x1024_0_0_0) shapeCasts_S1x512x1024_S512x1024) bitsLt_bf16_f32 := by
    show StableHlo.after hostOps0 (fun b => m (c, b)) (Proc.devRef .tc main_v15) = _
    simp only [hostOps0, cast_eq]
    after_results_simp <;> rfl
  exact (congrFun h _).trans (first_512 _ e d)

theorem prep_pc (e : Fin 512) (d : Fin 1024) : V m c main_v18 (ix2 e d : S512x1024.Idx) = PCm m c (ix3 0 e d) := by
  have h : V m c main_v18 = truncf (F := Ideal) (φ := .f32) .bf16 (shapeCast S512x1024 (extractStridedSlice S1x512x1024 ![0, 0, 0] (PCm m c)
      slices_S2x512x1024_S1x512x1024_0_0_0) shapeCasts_S1x512x1024_S512x1024) bitsLt_bf16_f32 := by
    show StableHlo.after hostOps0 (fun b => m (c, b)) (Proc.devRef .tc main_v18) = _
    simp only [hostOps0, cast_eq]
    after_results_simp <;> rfl
  exact (congrFun h _).trans (first_512 _ e d)

theorem prep_wo (d j : Fin 1024) : V m c main_v21 (ix2 d j : S1024x1024.Idx) = WOm m c (ix3 0 d j) := by
  have h : V m c main_v21 = truncf (F := Ideal) (φ := .f32) .bf16 (shapeCast S1024x1024 (extractStridedSlice S1x1024x1024 ![0, 0, 0] (WOm m c)
      slices_S2x1024x1024_S1x1024x1024_0_0_0) shapeCasts_S1x1024x1024_S1024x1024) bitsLt_bf16_f32 := by
    show StableHlo.after hostOps0 (fun b => m (c, b)) (Proc.devRef .tc main_v21) = _
    simp only [hostOps0, cast_eq]
    after_results_simp <;> rfl
  refine (congrFun h _).trans ?_
  generalize WOm m c = X
  pointwise

/-! ## The blocks in their places -/

theorem index_facts : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = t.val ∧ win0_10.index t 1 = 0) := by decide +kernel

theorem t_lt (t : Fin cfg0.N) : t.val < 16 := lt_of_lt_of_eq t.isLt N_0

/-- The array's row of a block's row. -/
abbrev rowOf (t : Fin cfg0.N) (r : Fin 1024) : Fin 16384 := ⟨t.val * 1024 + r.val, by have := t_lt t; omega⟩

theorem part_0 (t : Fin cfg0.N) (r : Fin 1024) (l : Fin 1024) :
    iblk m c 0 t (ix2 r l : S1024x1024.Idx) = Xm m c (ix3 ⟨(rowOf t r).val / 2048, by omega⟩ ⟨(rowOf t r).val % 2048, by omega⟩ l) := by
  refine Eq.trans ?_ (prep_x m c (rowOf t r) l)
  obtain ⟨h0, h1⟩ := (index_facts t).1
  show V m c main_v0 ((win0_0.rect t).emb (ix2 r l : S1024x1024.Idx)) = _
  congr 1
  refine funext fun (a : Fin 2) => Fin.ext ((win0_0.rect_emb_val t _ a).trans ?_)
  match a with
  | 0 => show win0_0.index t 0 * 1024 + r.val = t.val * 1024 + r.val; rw [h0]
  | 1 => show win0_0.index t 1 * 1024 + l.val = l.val; rw [h1]; omega

theorem part_1 (t : Fin cfg0.N) (l : Fin 1024) :
    iblk m c 1 t (ix2 0 l : S1x1024.Idx) = Gm m c (ix2 0 l) := by
  refine Eq.trans ?_ (prep_g m c l)
  obtain ⟨h0, h1⟩ := (index_facts t).2.1
  show V m c main_v22 ((win0_1.rect t).emb (ix2 0 l : S1x1024.Idx)) = _
  congr 1
  refine funext fun (a : Fin 2) => Fin.ext ((win0_1.rect_emb_val t _ a).trans ?_)
  match a with
  | 0 => show win0_1.index t 0 * 1 + 0 = 0; rw [h0]
  | 1 => show win0_1.index t 1 * 1024 + l.val = l.val; rw [h1]; omega

theorem part_2 (t : Fin cfg0.N) (r : Fin 1024) (l : Fin 3072) :
    iblk m c 2 t (ix2 r l : S1024x3072.Idx) = Wm m c (ix3 0 r ⟨3336 + l.val, by omega⟩) := by
  refine Eq.trans ?_ (prep_w m c r l)
  obtain ⟨h0, h1⟩ := (index_facts t).2.2.1
  show V m c main_v4 ((win0_2.rect t).emb (ix2 r l : S1024x3072.Idx)) = _
  congr 1
  refine funext fun (a : Fin 2) => Fin.ext ((win0_2.rect_emb_val t _ a).trans ?_)
  match a with
  | 0 => show win0_2.index t 0 * 1024 + r.val = r.val; rw [h0]; omega
  | 1 => show win0_2.index t 1 * 3072 + l.val = l.val; rw [h1]; omega

theorem part_3 (t : Fin cfg0.N) (r : Fin 1024) (l : Fin 512) :
    iblk m c 3 t (ix2 r l : S1024x512.Idx) = OAm m c (ix3 ⟨(rowOf t r).val / 2048, by omega⟩ ⟨(rowOf t r).val % 2048, by omega⟩ l) := by
  refine Eq.trans ?_ (prep_oa m c (rowOf t r) l)
  obtain ⟨h0, h1⟩ := (index_facts t).2.2.2.1
  show V m c main_v7 ((win0_3.rect t).emb (ix2 r l : S1024x512.Idx)) = _
  congr 1
  refine funext fun (a : Fin 2) => Fin.ext ((win0_3.rect_emb_val t _ a).trans ?_)
  match a with
  | 0 => show win0_3.index t 0 * 1024 + r.val = t.val * 1024 + r.val; rw [h0]
  | 1 => show win0_3.index t 1 * 512 + l.val = l.val; rw [h1]; omega

theorem part_4 (t : Fin cfg0.N) (r : Fin 1024) (l : Fin 512) :
    iblk m c 4 t (ix2 r l : S1024x512.Idx) = OBm m c (ix3 ⟨(rowOf t r).val / 2048, by omega⟩ ⟨(rowOf t r).val % 2048, by omega⟩ l) := by
  refine Eq.trans ?_ (prep_ob m c (rowOf t r) l)
  obtain ⟨h0, h1⟩ := (index_facts t).2.2.2.2.1
  show V m c main_v8 ((win0_4.rect t).emb (ix2 r l : S1024x512.Idx)) = _
  congr 1
  refine funext fun (a : Fin 2) => Fin.ext ((win0_4.rect_emb_val t _ a).trans ?_)
  match a with
  | 0 => show win0_4.index t 0 * 1024 + r.val = t.val * 1024 + r.val; rw [h0]
  | 1 => show win0_4.index t 1 * 512 + l.val = l.val; rw [h1]; omega

theorem part_5 (t : Fin cfg0.N) (r : Fin 1024) (l : Fin 512) :
    iblk m c 5 t (ix2 r l : S1024x512.Idx) = OCm m c (ix3 ⟨(rowOf t r).val / 2048, by omega⟩ ⟨(rowOf t r).val % 2048, by omega⟩ l) := by
  refine Eq.trans ?_ (prep_oc m c (rowOf t r) l)
  obtain ⟨h0, h1⟩ := (index_facts t).2.2.2.2.2.1
  show V m c main_v9 ((win0_5.rect t).emb (ix2 r l : S1024x512.Idx)) = _
  congr 1
  refine funext fun (a : Fin 2) => Fin.ext ((win0_5.rect_emb_val t _ a).trans ?_)
  match a with
  | 0 => show win0_5.index t 0 * 1024 + r.val = t.val * 1024 + r.val; rw [h0]
  | 1 => show win0_5.index t 1 * 512 + l.val = l.val; rw [h1]; omega

theorem part_6 (t : Fin cfg0.N) (r : Fin 512) (l : Fin 1024) :
    iblk m c 6 t (ix2 r l : S512x1024.Idx) = PAm m c (ix3 0 r l) := by
  refine Eq.trans ?_ (prep_pa m c r l)
  obtain ⟨h0, h1⟩ := (index_facts t).2.2.2.2.2.2.1
  show V m c main_v12 ((win0_6.rect t).emb (ix2 r l : S512x1024.Idx)) = _
  congr 1
  refine funext fun (a : Fin 2) => Fin.ext ((win0_6.rect_emb_val t _ a).trans ?_)
  match a with
  | 0 => show win0_6.index t 0 * 512 + r.val = r.val; rw [h0]; omega
  | 1 => show win0_6.index t 1 * 1024 + l.val = l.val; rw [h1]; omega

theorem part_7 (t : Fin cfg0.N) (r : Fin 512) (l : Fin 1024) :
    iblk m c 7 t (ix2 r l : S512x1024.Idx) = PBm m c (ix3 0 r l) := by
  refine Eq.trans ?_ (prep_pb m c r l)
  obtain ⟨h0, h1⟩ := (index_facts t).2.2.2.2.2.2.2.1
  show V m c main_v15 ((win0_7.rect t).emb (ix2 r l : S512x1024.Idx)) = _
  congr 1
  refine funext fun (a : Fin 2) => Fin.ext ((win0_7.rect_emb_val t _ a).trans ?_)
  match a with
  | 0 => show win0_7.index t 0 * 512 + r.val = r.val; rw [h0]; omega
  | 1 => show win0_7.index t 1 * 1024 + l.val = l.val; rw [h1]; omega

theorem part_8 (t : Fin cfg0.N) (r : Fin 512) (l : Fin 1024) :
    iblk m c 8 t (ix2 r l : S512x1024.Idx) = PCm m c (ix3 0 r l) := by
  refine Eq.trans ?_ (prep_pc m c r l)
  obtain ⟨h0, h1⟩ := (index_facts t).2.2.2.2.2.2.2.2.1
  show V m c main_v18 ((win0_8.rect t).emb (ix2 r l : S512x1024.Idx)) = _
  congr 1
  refine funext fun (a : Fin 2) => Fin.ext ((win0_8.rect_emb_val t _ a).trans ?_)
  match a with
  | 0 => show win0_8.index t 0 * 512 + r.val = r.val; rw [h0]; omega
  | 1 => show win0_8.index t 1 * 1024 + l.val = l.val; rw [h1]; omega

theorem part_9 (t : Fin cfg0.N) (r : Fin 1024) (l : Fin 1024) :
    iblk m c 9 t (ix2 r l : S1024x1024.Idx) = WOm m c (ix3 0 r l) := by
  refine Eq.trans ?_ (prep_wo m c r l)
  obtain ⟨h0, h1⟩ := (index_facts t).2.2.2.2.2.2.2.2.2.1
  show V m c main_v21 ((win0_9.rect t).emb (ix2 r l : S1024x1024.Idx)) = _
  congr 1
  refine funext fun (a : Fin 2) => Fin.ext ((win0_9.rect_emb_val t _ a).trans ?_)
  match a with
  | 0 => show win0_9.index t 0 * 1024 + r.val = r.val; rw [h0]; omega
  | 1 => show win0_9.index t 1 * 1024 + l.val = l.val; rw [h1]; omega

/-- Which index of the array an element of point `t`'s result block is. -/
theorem place_10 (t : Fin cfg0.N) (r l : Fin 1024) :
    (win0_10.rect t).emb (ix2 r l : S1024x1024.Idx) = (ix2 (rowOf t r) l : S16384x1024.Idx) := by
  obtain ⟨h0, h1⟩ := (index_facts t).2.2.2.2.2.2.2.2.2.2
  refine funext fun (a : Fin 2) => Fin.ext ((win0_10.rect_emb_val t _ a).trans ?_)
  match a with
  | 0 => show win0_10.index t 0 * 1024 + r.val = t.val * 1024 + r.val; rw [h0]
  | 1 => show win0_10.index t 1 * 1024 + l.val = l.val; rw [h1]; omega

/-- The merge of the arguments at batch `bt`, position `p`, lane `j`. -/
def mergedAt (X : S8x2048x1024.Idx → EReal) (G : S2x1024.Idx → EReal) (W : S2x1024x6408.Idx → EReal) (OA OB OC : S8x2048x512.Idx → EReal)
    (PA PB PC : S2x512x1024.Idx → EReal) (WO : S2x1024x1024.Idx → EReal) (bt : Fin 8) (p : Fin 2048) (j : Fin 1024) : EReal :=
  merged (fun a => X (ix3 bt p a)) (fun a => G (ix2 0 a)) (fun a b => W (ix3 0 a ⟨3336 + b.val, by omega⟩))
    (fun e => OA (ix3 bt p e)) (fun e => OB (ix3 bt p e)) (fun e => OC (ix3 bt p e))
    (fun e d => PA (ix3 0 e d)) (fun e d => PB (ix3 0 e d)) (fun e d => PC (ix3 0 e d)) (fun d j => WO (ix3 0 d j)) j

abbrev mergedM := mergedAt (Xm m c) (Gm m c) (Wm m c) (OAm m c) (OBm m c) (OCm m c) (PAm m c) (PBm m c) (PCm m c) (WOm m c)

/-- What point `t` writes back is its rows of the merge. -/
theorem flushed_at (t : Fin cfg0.N) (r j : Fin 1024) (row : Fin 16384) (h : rowOf t r = row) :
    (dats m 0 c).flushed 10 t (ix2 r j : S1024x1024.Idx)
      = mergedM m c ⟨row.val / 2048, by omega⟩ ⟨row.val % 2048, by omega⟩ j := by
  subst h
  rw [Value.flushed10]
  refine (block_at _ _ _ _ _ _ _ _ _ _ r j).trans ?_
  simp only [part_0, part_1, part_2, part_3, part_4, part_5, part_6, part_7, part_8, part_9]
  rfl

/-- THE RESULT ARRAY, element by element. -/
theorem arr_at (row : Fin 16384) (j : Fin 1024) :
    (dats m 0 c).arrAt 10 cfg0.N (ix2 row j : S16384x1024.Idx)
      = mergedM m c ⟨row.val / 2048, by omega⟩ ⟨row.val % 2048, by omega⟩ j := by
  have ht : row.val / 1024 < cfg0.N := by rw [show cfg0.N = 16 from N_0]; omega
  have he := place_10 ⟨row.val / 1024, ht⟩ ⟨row.val % 1024, by omega⟩ j
  have hr : rowOf ⟨row.val / 1024, ht⟩ ⟨row.val % 1024, by omega⟩ = row := Fin.ext (by show row.val / 1024 * 1024 + row.val % 1024 = row.val; omega)
  have hf := flushed_at m c ⟨row.val / 1024, ht⟩ ⟨row.val % 1024, by omega⟩ j row hr
  rw [hr] at he
  rw [← he]
  exact ((dats m 0 c).arrAt_emb_eq_flushed 10 Value.disjoint10 ⟨row.val / 1024, ht⟩ (flush0_10 _) _).trans hf

end Cert.Merge

end
-- ==== Proof.MergeRef.lean ====
/- The merge's reference, stage by stage at an index. -/
module

public import proofs.«01_k».proof.Proof.MergeArray
public import proofs.«01_k».proof.Proof.Gen.Reference3Ideal.Read
public import proofs.«01_k».proof.Proof.Gen.Reference3Ideal.Run
public import Idealize.ShloMosaic.Lib.Pointwise

@[expose] public section

set_option maxRecDepth 16384

noncomputable section

namespace Cert.Merge

open Idealize.ShloMosaic Cert.Reference3Ideal Cert.Reference3Ideal.Read

variable (X : Vec Ideal S8x2048x1024 .f32) (G : Vec Ideal S2x1024 .f32) (W : Vec Ideal S2x1024x6408 .f32)
  (OA OB OC : Vec Ideal S8x2048x512 .bf16) (PA PB PC : Vec Ideal S2x512x1024 .f32) (WO : Vec Ideal S2x1024x1024 .f32)

theorem ref_norm (bt : Fin 8) (p : Fin 2048) (k : Fin 1024) :
    val_main_v17 (F := Ideal) X G (ix3 bt p k) = normed (fun a => X (ix3 bt p a)) (fun a => G (ix2 0 a)) k := by
  pointwise [val_main_v17, val_main_v16, val_main_v15, val_main_v14, val_main_v13, val_main_v12, val_main_v11, val_main_v10, val_main_v9,
    val_main_v8, val_main_cst_1, val_main_v7, val_main_v6, val_main_cst_0, val_main_v5, val_main_v4, val_main_cst, val_main_v3]
  rfl

theorem ref_proj (bt : Fin 8) (p : Fin 2048) (b : Fin 6408) :
    val_main_v20 (F := Ideal) X G W (ix3 bt p b)
      = ∑ a, normed (fun a => X (ix3 bt p a)) (fun a => G (ix2 0 a)) a * W (ix3 0 a b) := by
  have e := ref_norm X G bt p
  unfold val_main_v20
  generalize val_main_v17 (F := Ideal) X G = h at e ⊢
  pointwise [val_main_v19, val_main_v18]
  simp only [e]

theorem ref_gate (bt : Fin 8) (p : Fin 2048) (b : Fin 3072) :
    val_main_v27 (F := Ideal) X G W (ix3 bt p b)
      = Ideal.logistic (∑ a, normed (fun a => X (ix3 bt p a)) (fun a => G (ix2 0 a)) a * W (ix3 0 a ⟨3336 + b.val, by omega⟩)) := by
  rw [← ref_proj]
  pointwise [val_main_v27, val_main_v26, val_main_cst_3, val_main_v25, val_main_v24, val_main_cst_2, val_main_v23, val_main_v22, val_main_v21]
  rfl

theorem ref_gates (bt : Fin 8) (p : Fin 2048) (n : Fin 3) (d : Fin 1024) :
    val_main_v28 (F := Ideal) X G W (ix4 bt p n d) = val_main_v27 (F := Ideal) X G W (ix3 bt p ⟨n.val * 1024 + d.val, by omega⟩) := by
  unfold val_main_v28
  generalize val_main_v27 (F := Ideal) X G W = z
  pointwise

theorem ref_gate_of (bt : Fin 8) (p : Fin 2048) (n : Fin 3) (d : Fin 1024) (b : Fin 3072) (hb : n.val * 1024 + d.val = b.val) :
    val_main_v28 (F := Ideal) X G W (ix4 bt p n d)
      = Ideal.logistic (∑ a, normed (fun a => X (ix3 bt p a)) (fun a => G (ix2 0 a)) a * W (ix3 0 a ⟨3336 + b.val, by omega⟩)) := by
  rw [ref_gates, ← ref_gate]
  exact congrArg (fun b => val_main_v27 (F := Ideal) X G W (ix3 bt p b)) (Fin.ext hb)

theorem ref_a (bt : Fin 8) (p : Fin 2048) (d : Fin 1024) :
    val_main_v33 (F := Ideal) OA PA (ix3 bt p d) = ∑ e, OA (ix3 bt p e) * PA (ix3 0 e d) := by
  pointwise [val_main_v33, val_main_v32, val_main_v31, val_main_v0]

theorem ref_b (bt : Fin 8) (p : Fin 2048) (d : Fin 1024) :
    val_main_v39 (F := Ideal) OB PB (ix3 bt p d) = ∑ e, OB (ix3 bt p e) * PB (ix3 0 e d) := by
  pointwise [val_main_v39, val_main_v38, val_main_v37, val_main_v1]

theorem ref_c (bt : Fin 8) (p : Fin 2048) (d : Fin 1024) :
    val_main_v46 (F := Ideal) OC PC (ix3 bt p d) = ∑ e, OC (ix3 bt p e) * PC (ix3 0 e d) := by
  pointwise [val_main_v46, val_main_v45, val_main_v44, val_main_v2]

theorem ref_mixed (bt : Fin 8) (p : Fin 2048) (d : Fin 1024) :
    val_main_v48 (F := Ideal) X G W OA OB OC PA PB PC (ix3 bt p d)
      = mixed (normed (fun a => X (ix3 bt p a)) (fun a => G (ix2 0 a))) (fun a b => W (ix3 0 a ⟨3336 + b.val, by omega⟩))
          (fun e => OA (ix3 bt p e)) (fun e => OB (ix3 bt p e)) (fun e => OC (ix3 bt p e))
          (fun e d => PA (ix3 0 e d)) (fun e d => PB (ix3 0 e d)) (fun e d => PC (ix3 0 e d)) d := by
  have e : val_main_v48 (F := Ideal) X G W OA OB OC PA PB PC (ix3 bt p d)
      = val_main_v28 (F := Ideal) X G W (ix4 bt p 0 d) * val_main_v33 (F := Ideal) OA PA (ix3 bt p d)
        + val_main_v28 (F := Ideal) X G W (ix4 bt p 1 d) * val_main_v39 (F := Ideal) OB PB (ix3 bt p d)
        + val_main_v28 (F := Ideal) X G W (ix4 bt p 2 d) * val_main_v46 (F := Ideal) OC PC (ix3 bt p d) := by
    unfold val_main_v48 val_main_v47 val_main_v43 val_main_v42 val_main_v41 val_main_v40 val_main_v36 val_main_v35 val_main_v34 val_main_v30 val_main_v29
    generalize val_main_v28 (F := Ideal) X G W = z
    generalize val_main_v33 (F := Ideal) OA PA = za
    generalize val_main_v39 (F := Ideal) OB PB = zb
    generalize val_main_v46 (F := Ideal) OC PC = zc
    pointwise
  rw [e, ref_gate_of X G W bt p 0 d ⟨d.val, by omega⟩ (by show 0 * 1024 + d.val = d.val; omega),
    ref_gate_of X G W bt p 1 d ⟨1024 + d.val, by omega⟩ (by show 1 * 1024 + d.val = 1024 + d.val; omega),
    ref_gate_of X G W bt p 2 d ⟨2048 + d.val, by omega⟩ (by show 2 * 1024 + d.val = 2048 + d.val; omega), ref_a, ref_b, ref_c]
  rfl

theorem ref_at (row : Fin 16384) (j : Fin 1024) :
    val_main_v53 (F := Ideal) X G W OA OB OC PA PB PC WO (ix2 row j)
      = mergedAt X G W OA OB OC PA PB PC WO ⟨row.val / 2048, by omega⟩ ⟨row.val % 2048, by omega⟩ j := by
  have e := ref_mixed X G W OA OB OC PA PB PC ⟨row.val / 2048, by omega⟩ ⟨row.val % 2048, by omega⟩
  unfold val_main_v53 val_main_v52 val_main_v51
  generalize val_main_v48 (F := Ideal) X G W OA OB OC PA PB PC = z at e ⊢
  refine (flat_1024 _ row j).trans ?_
  pointwise [val_main_v50, val_main_v49]
  simp only [e]
  rfl

end Cert.Merge

end
-- ==== Proof.Merge.lean ====
/- The merge of the branches: its frames, and its array equal to the reference's. -/
module

public import proofs.«01_k».proof.Defs
public import proofs.«01_k».proof.Proof.MergeRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import Idealize.ShloMosaic.Adequacy
public import Idealize.ShloMosaic.Init

@[expose] public section

set_option maxRecDepth 16384

noncomputable section

namespace Cert.Merge

open Idealize.ShloMosaic Idealize.ShloMosaic.TcCoe Idealize.SL.Sem

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ =>
  Cert.Kernel3Ideal.Gen.frame m ρ

theorem frame_reference : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run m ρ)

/-- The kernel's array is the reference's, element by element. -/
theorem array_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v53 (F := Ideal) (Xm m c) (Gm m c) (Wm m c) (OAm m c) (OBm m c) (OCm m c)
        (PAm m c) (PBm m c) (PCm m c) (WOm m c)
      = (Cert.Kernel3Ideal.Gen.dats m 0 c).arrAt 10 Cert.Kernel3Ideal.cfg0.N := by
  funext (i : Cert.Kernel3Ideal.S16384x1024.Idx)
  idx_vars i
  exact (ref_at _ _ _ _ _ _ _ _ _ _ i0 i1).trans (arr_at m c i0 i1).symm

theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 10 Cert.Kernel3Ideal.cfg0.N,
    Cert.Kernel3Ideal.Value.run_blocks m ρ, ?_⟩
  refine (θ_run Cert.Reference3Ideal.defs _ _).mono (fun r h c => ⟨(h c).1.trans ?_, (h c).2⟩) (Cert.Reference3Ideal.Value.run m' ρ')
  obtain ⟨h0, h1, h2, h3, h4, h5, h6, h7, h8, h9⟩ := hagree c
  rw [Cert.Reference3Ideal.Read.val_main_v53_eq, h0, h1, h2, h3, h4, h5, h6, h7, h8, h9]
  exact array_eq m c

end Cert.Merge

end
-- ==== Proof.InFrames.lean ====
/- The input projections: the frames. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import Idealize.ShloMosaic.Adequacy
public import Idealize.ShloMosaic.Init

@[expose] public section

set_option maxRecDepth 16384

noncomputable section

namespace Cert.InProj

open Idealize.ShloMosaic Idealize.ShloMosaic.TcCoe Idealize.SL.Sem

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ =>
  Cert.Kernel4Ideal.Gen.frame m ρ

theorem frame_reference : Cert.quiescent_Reference4Ideal (hReference4Ideal := Cert.Reference4Ideal.Gen.facts) := fun m ρ _ =>
  (θ_run Cert.Reference4Ideal.defs _ _).mono
    (fun r h => ⟨fun c => (h c).2.2.2.2.2.2, sem_eq_zero_of_no_sems (by decide) r.2⟩) (Cert.Reference4Ideal.Value.run m ρ)

end Cert.InProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Pre
public import proofs.«01_k».proof.Proof.Ref
public import proofs.«01_k».proof.Proof.Experts
public import proofs.«01_k».proof.Proof.Merge
public import proofs.«01_k».proof.Proof.InFrames
public import proofs.«01_k».proof.Proof.Gen.Kernel4
public import proofs.«01_k».proof.Proof.Gen.Kernel4Ideal
public import proofs.«01_k».proof.Proof.Gen.Reference4Ideal
public import proofs.«01_k».proof.Proof.Gen.Kernel3
public import proofs.«01_k».proof.Proof.Gen.Kernel3Ideal
public import proofs.«01_k».proof.Proof.Gen.Reference3Ideal
public import proofs.«01_k».proof.Proof.Gen.Pre_segment_tables
public import proofs.«01_k».proof.Proof.Gen.On_routed_rows
public import proofs.«01_k».proof.Proof.Gen.Kernel2
public import proofs.«01_k».proof.Proof.Gen.Kernel2Ideal
public import proofs.«01_k».proof.Proof.Gen.Reference2Ideal
public import Idealize.ShloMosaic.Adequacy
public import Idealize.ShloMosaic.Init

@[expose] public section

noncomputable section

/-! The claims of the four calls: the frames (also under the preconditions), no rewrite between the two printings of a kernel, and the
kernel's array equal to the reference's at every index the claim names. -/

namespace Cert.Proof

open Idealize.ShloMosaic Idealize.ShloMosaic.TcCoe Idealize.SL.Sem

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ =>
  Cert.KernelIdeal.Gen.frame m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run m ρ)

/-- The kernel's array is the reference's, element by element. -/
theorem array_eq (m : (ℓ : Loc Cert.KernelIdeal.nD Cert.KernelIdeal.τ Cert.KernelIdeal.sig) → Buf (Elt Ideal) ℓ)
    (c : Dev Cert.KernelIdeal.nD) (hF : Mla.Fin3 (Mla.Qm m c) (Mla.KVm m c) (Mla.KRm m c)) :
    Cert.ReferenceIdeal.Read.val_main_v41 (F := Ideal) (Mla.Qm m c) (Mla.KVm m c) (Mla.KRm m c)
      = (Cert.KernelIdeal.Gen.dats m 0 c).arrAt 3 Cert.KernelIdeal.cfg0.N := by
  funext (i : Cert.KernelIdeal.S8x2048x512.Idx)
  idx_vars i
  have hk := Mla.arr_at m c hF i0 i1 ⟨i2.val / 128, by omega⟩ ⟨i2.val % 128, by omega⟩
  have hr := Mla.ref_at (Mla.Qm m c) (Mla.KVm m c) (Mla.KRm m c) i0 i1 ⟨i2.val / 128, by omega⟩ ⟨i2.val % 128, by omega⟩
  have e1 : (⟨128 * (i2.val / 128) + i2.val % 128, by omega⟩ : Fin 512) = i2 :=
    Fin.ext (show 128 * (i2.val / 128) + i2.val % 128 = i2.val by omega)
  have e2 : (⟨i2.val / 128 * 128 + i2.val % 128, by omega⟩ : Fin 512) = i2 :=
    Fin.ext (show i2.val / 128 * 128 + i2.val % 128 = i2.val by omega)
  simp only [e1] at hk
  simp only [e2] at hr
  exact hr.trans hk.symm

theorem algebraic : Cert.algebraic_KernelIdeal_ReferenceIdeal_pre_finite_scores (hKernelIdeal := Cert.KernelIdeal.Gen.facts)
    (hReferenceIdeal := Cert.ReferenceIdeal.Gen.facts) (hPre_finite_scores := Mla.pre_facts) := by
  intro m ρ m' ρ' hpre hagree
  refine ⟨fun c => (Cert.KernelIdeal.Gen.dats m 0 c).arrAt 3 Cert.KernelIdeal.cfg0.N,
    Cert.KernelIdeal.Value.run_blocks m ρ, ?_⟩
  refine (θ_run Cert.ReferenceIdeal.defs _ _).mono (fun r h c => ⟨(h c).1.trans ?_, (h c).2⟩) (Cert.ReferenceIdeal.Value.run m' ρ')
  rw [Cert.ReferenceIdeal.Read.val_main_v41_eq, (hagree c).1, (hagree c).2.1, (hagree c).2.2]
  exact array_eq m c (@Mla.pre_real Mla.pre_facts _ _ _ (hpre c))

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Mla.pre_facts, Cert.Pre_segment_tables.Gen.facts, Cert.On_routed_rows.Gen.facts,
    frame_kernel, frame_ideal, fun m ρ _ => Cert.KernelIdeal.Gen.frame m ρ, frame_reference, fun m ρ _ => frame_reference m ρ trivial,
    Kernel2.Experts.frame_kernel, Kernel2.Experts.frame_ideal, Kernel2.Experts.frame_reference,
    fun m ρ _ => Kernel2.Experts.frame_reference m ρ trivial, Merge.frame_kernel, Merge.frame_ideal, Merge.frame_reference,
    InProj.frame_kernel, InProj.frame_ideal, InProj.frame_reference,
    trivial, algebraic, trivial, Kernel2.Experts.algebraic, trivial, Merge.algebraic, trivial⟩

end Cert.Proof

end
